-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S32x1000000 : Shape := ⟨2, ![32, 1000000]⟩
abbrev S_ : Shape := ⟨0, ![]⟩
abbrev S32 : Shape := ⟨1, ![32]⟩
abbrev S32x1 : Shape := ⟨2, ![32, 1]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1000000_0_1 : S32x1.BroadcastsInDim S32x1000000 (![0, 1] : Fin 2 → Fin S32x1000000.rank)

variable [Facts]

def fn {F : FTy → Type} [FloatOps F] (main_arg0 : FVec F S32x1000000 .f32) (main_arg1 : FVec F S_ .f32) : IVec S32x1000000 1 :=
  let main_v0 : FVec F S_ .f32 := Host.exp main_arg1
  let main_v1 : FVec F S32x1000000 .f32 := broadcastInDim S32x1000000 ![] bcast_S_S32x1000000 main_v0
  let main_v2 : FVec F S32x1000000 .f32 := mulf main_arg0 main_v1
  let main_cst : FVec F S_ .f32 := constant S_ .f32 0x7F800000#32
  let main_v3 : FVec F S32x1000000 .f32 := broadcastInDim S32x1000000 ![] bcast_S_S32x1000000 main_cst
  let main_v4 : IVec S32x1000000 1 := cmpf .olt main_v2 main_v3
  let main_cst_0 : FVec F S_ .f32 := constant S_ .f32 0xFF800000#32
  let main_v5 : FVec F S32 .f32 := (fun x v => Host.reduce FloatOps.maximumf x v reducesTo_S32x1000000_S32_d1 h_S_) main_v2 main_cst_0
  let main_v6 : FVec F S32x1 .f32 := broadcastInDim S32x1 ![0] bcast_S32_S32x1_0 main_v5
  let main_cst_1 : FVec F S_ .f32 := constant S_ .f32 0xFF800000#32
  let main_v7 : FVec F S32x1 .f32 := broadcastInDim S32x1 ![] bcast_S_S32x1 main_cst_1
  let main_v8 : IVec S32x1 1 := cmpf .ogt main_v6 main_v7
  let main_v9 : IVec S32x1000000 1 := broadcastInDim S32x1000000 ![0, 1] bcast_S32x1_S32x1000000_0_1 main_v8
  let main_v10 : IVec S32x1000000 1 := andi main_v4 main_v9
  main_v10
-- ==== Kernel.lean ====
abbrev S32x1000000 : Shape := ⟨2, ![32, 1000000]⟩
abbrev S_ : Shape := ⟨0, ![]⟩
abbrev S1x1 : Shape := ⟨2, ![1, 1]⟩
abbrev S8x128000 : Shape := ⟨2, ![8, 128000]⟩
abbrev S8x1000000 : Shape := ⟨2, ![8, 1000000]⟩
abbrev S8x1280 : Shape := ⟨2, ![8, 1280]⟩
abbrev S8x320 : Shape := ⟨2, ![8, 320]⟩
abbrev S8 : Shape := ⟨1, ![8]⟩
abbrev S8x1 : Shape := ⟨2, ![8, 1]⟩
abbrev S8x3200 : Shape := ⟨2, ![8, 3200]⟩
abbrev S8x1600 : Shape := ⟨2, ![8, 1600]⟩

abbrev nBuf : Space → Nat
  | .hbm => 4
  | .vmem => 7
  | .smem => 0
  | _ => 0

abbrev bufTy : (tb : Table) → Fin (tcTables nBuf tb) → BufTy
  | .hbm, ⟨0, _⟩ => ⟨S32x1000000, .f32⟩
  | .hbm, ⟨1, _⟩ => ⟨S_, .f32⟩
  | .hbm, ⟨2, _⟩ => ⟨S1x1, .f32⟩
  | .hbm, ⟨3, _⟩ => ⟨S32x1000000, .f32⟩
  | .local _ .vmem, ⟨0, _⟩ => ⟨S1x1, .f32⟩
  | .local _ .vmem, ⟨1, _⟩ => ⟨S8x128000, .f32⟩
  | .local _ .vmem, ⟨2, _⟩ => ⟨S8x128000, .f32⟩
  | .local _ .vmem, ⟨3, _⟩ => ⟨S8x128000, .f32⟩
  | .local _ .vmem, ⟨4, _⟩ => ⟨S8x128000, .f32⟩
  | .local _ .vmem, ⟨5, _⟩ => ⟨S8x1000000, .f32⟩
  | .local _ .vmem, ⟨6, _⟩ => ⟨S8x1280, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg1 : BitVec 32 := BitVec.ofNat 32 (i 1).val
  let c0_i32_3 : BitVec 32 := 0#32
  let v17 : BitVec 1 := Scalar.cmpi .eq arg1 c0_i32_3
  let arg2 : BitVec 32 := BitVec.ofNat 32 (i 2).val
  let c7_i32 : BitVec 32 := 7#32
  let v18 : BitVec 1 := Scalar.cmpi .slt arg2 c7_i32
  let v19 : BitVec 1 := Scalar.andi v17 v18
  let v20 : BitVec 32 := Scalar.extui v19
  let c0_i32_4 : BitVec 32 := 0#32
  let v21 : BitVec 1 := Scalar.cmpi .ne v20 c0_i32_4
  v21

@[reducible] def k0_t1_loop : Scf.Loop 32 :=
  let c0_i32_11 : BitVec 32 := 0#32
  let c20_i32 : BitVec 32 := 20#32
  let v32 : BitVec 32 := Scalar.addi c0_i32_11 c20_i32
  let c1_i32_12 : BitVec 32 := 1#32
  ⟨c0_i32_11, v32, c1_i32_12⟩
def k0_off1 (k0_t1 : Fin k0_t1_loop.trips) (c0_i32_16 : BitVec 32) : Fin 2 → Nat :=
  let c0_17 : Index := 0#32
  let c0_i32_11 : BitVec 32 := 0#32
  let c1_i32_12 : BitVec 32 := 1#32
  let arg8 : BitVec 32 := Scf.iv c0_i32_11 c1_i32_12 k0_t1
  let c5_i32 : BitVec 32 := 5#32
  let v38 : BitVec 32 := Scalar.muli arg8 c5_i32
  let v39 : BitVec 32 := Scalar.addi v38 c0_i32_16
  let c1280_i32 : BitVec 32 := 1280#32
  let v40 : BitVec 32 := Scalar.muli v39 c1280_i32
  let v41 : Index := Scalar.indexCast v40
  ![0, v41.toNat]
def k0_off2 (i : grid0.Coords) (k0_t1 : Fin k0_t1_loop.trips) (c0_i32_16 : BitVec 32) : Fin 2 → Nat :=
  let c0_58 : Index := 0#32
  let arg2 : BitVec 32 := BitVec.ofNat 32 (i 2).val
  let c128000_i32 : BitVec 32 := 128000#32
  let v8 : BitVec 32 := Scalar.muli arg2 c128000_i32
  let c0_i32_11 : BitVec 32 := 0#32
  let c1_i32_12 : BitVec 32 := 1#32
  let arg8 : BitVec 32 := Scf.iv c0_i32_11 c1_i32_12 k0_t1
  let c5_i32 : BitVec 32 := 5#32
  let v38 : BitVec 32 := Scalar.muli arg8 c5_i32
  let v39 : BitVec 32 := Scalar.addi v38 c0_i32_16
  let c1280_i32 : BitVec 32 := 1280#32
  let v40 : BitVec 32 := Scalar.muli v39 c1280_i32
  let v229 : BitVec 32 := Scalar.addi v8 v40
  let v230 : Index := Scalar.indexCast v229
  ![0, v230.toNat]
def k0_cond3 (i : grid0.Coords) : BitVec 1 :=
  let arg1 : BitVec 32 := BitVec.ofNat 32 (i 1).val
  let c0_i32_5 : BitVec 32 := 0#32
  let v22 : BitVec 1 := Scalar.cmpi .eq arg1 c0_i32_5
  let arg2 : BitVec 32 := BitVec.ofNat 32 (i 2).val
  let c7_i32_6 : BitVec 32 := 7#32
  let v23 : BitVec 1 := Scalar.cmpi .eq arg2 c7_i32_6
  let v24 : BitVec 1 := Scalar.andi v22 v23
  let v25 : BitVec 32 := Scalar.extui v24
  let c0_i32_7 : BitVec 32 := 0#32
  let v26 : BitVec 1 := Scalar.cmpi .ne v25 c0_i32_7
  v26

@[reducible] def k0_t2_loop : Scf.Loop 32 :=
  let c0_i32_9 : BitVec 32 := 0#32
  let c16_i32 : BitVec 32 := 16#32
  let v31 : BitVec 32 := Scalar.addi c0_i32_9 c16_i32
  let c1_i32_10 : BitVec 32 := 1#32
  ⟨c0_i32_9, v31, c1_i32_10⟩
def k0_off3 (k0_t2 : Fin k0_t2_loop.trips) (c0_i32_122 : BitVec 32) : Fin 2 → Nat :=
  let c0_123 : Index := 0#32
  let c0_i32_9 : BitVec 32 := 0#32
  let c1_i32_10 : BitVec 32 := 1#32
  let arg8 : BitVec 32 := Scf.iv c0_i32_9 c1_i32_10 k0_t2
  let c5_i32_121 : BitVec 32 := 5#32
  let v430 : BitVec 32 := Scalar.muli arg8 c5_i32_121
  let v431 : BitVec 32 := Scalar.addi v430 c0_i32_122
  let c1280_i32 : BitVec 32 := 1280#32
  let v432 : BitVec 32 := Scalar.muli v431 c1280_i32
  let v433 : Index := Scalar.indexCast v432
  ![0, v433.toNat]
def k0_off4 (i : grid0.Coords) (k0_t2 : Fin k0_t2_loop.trips) (c0_i32_122 : BitVec 32) : Fin 2 → Nat :=
  let c0_182 : Index := 0#32
  let arg2 : BitVec 32 := BitVec.ofNat 32 (i 2).val
  let c128000_i32 : BitVec 32 := 128000#32
  let v8 : BitVec 32 := Scalar.muli arg2 c128000_i32
  let c0_i32_9 : BitVec 32 := 0#32
  let c1_i32_10 : BitVec 32 := 1#32
  let arg8 : BitVec 32 := Scf.iv c0_i32_9 c1_i32_10 k0_t2
  let c5_i32_121 : BitVec 32 := 5#32
  let v430 : BitVec 32 := Scalar.muli arg8 c5_i32_121
  let v431 : BitVec 32 := Scalar.addi v430 c0_i32_122
  let c1280_i32 : BitVec 32 := 1280#32
  let v432 : BitVec 32 := Scalar.muli v431 c1280_i32
  let v621 : BitVec 32 := Scalar.addi v8 v432
  let v622 : Index := Scalar.indexCast v621
  ![0, v622.toNat]
def k0_off5 (i : grid0.Coords) : Fin 2 → Nat :=
  let c0_54 : Index := 0#32
  let arg2 : BitVec 32 := BitVec.ofNat 32 (i 2).val
  let c128000_i32 : BitVec 32 := 128000#32
  let v8 : BitVec 32 := Scalar.muli arg2 c128000_i32
  let c102400_i32_53 : BitVec 32 := 102400#32
  let v220 : BitVec 32 := Scalar.addi v8 c102400_i32_53
  let v221 : Index := Scalar.indexCast v220
  ![0, v221.toNat]
def k0_off6 (i : grid0.Coords) : Fin 2 → Nat :=
  let c0_116 : Index := 0#32
  let arg2 : BitVec 32 := BitVec.ofNat 32 (i 2).val
  let c128000_i32 : BitVec 32 := 128000#32
  let v8 : BitVec 32 := Scalar.muli arg2 c128000_i32
  let c103680_i32_115 : BitVec 32 := 103680#32
  let v419 : BitVec 32 := Scalar.addi v8 c103680_i32_115
  let v420 : Index := Scalar.indexCast v419
  ![0, v420.toNat]
def k0_cond4 (i : grid0.Coords) : BitVec 1 :=
  let arg1 : BitVec 32 := BitVec.ofNat 32 (i 1).val
  let c1_i32 : BitVec 32 := 1#32
  let v27 : BitVec 1 := Scalar.cmpi .eq arg1 c1_i32
  let v28 : BitVec 32 := Scalar.extui v27
  let c0_i32_8 : BitVec 32 := 0#32
  let v29 : BitVec 1 := Scalar.cmpi .ne v28 c0_i32_8
  v29

@[reducible] def k0_t3_loop (i : grid0.Coords) : Scf.Loop 32 :=
  let c0_i32_21 : BitVec 32 := 0#32
  let arg2 : BitVec 32 := BitVec.ofNat 32 (i 2).val
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c3200_i32 : BitVec 32 := 3200#32
  let c0_i32_16 : BitVec 32 := 0#32
  let v43 : BitVec 1 := Scalar.cmpi .sgt c3200_i32 c0_i32_16
  let v44 : BitVec 32 := Scalar.extui v43
  let c0_i32_17 : BitVec 32 := 0#32
  let v45 : BitVec 1 := Scalar.cmpi .slt c3200_i32 c0_i32_17
  let v46 : BitVec 32 := Scalar.extui v45
  let v47 : BitVec 32 := Scalar.subi v44 v46
  let v48 : BitVec 1 := Scalar.cmpi .ne v42 v47
  let v49 : BitVec 32 := Scalar.remsi v36 c3200_i32
  let c0_i32_18 : BitVec 32 := 0#32
  let v50 : BitVec 1 := Scalar.cmpi .ne v49 c0_i32_18
  let v51 : BitVec 1 := Scalar.andi v48 v50
  let v37 : BitVec 32 := Scalar.divsi v36 c3200_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_23 : BitVec 32 := 1#32
  ⟨c0_i32_21, v58, c1_i32_23⟩
def k0_off7 (i : grid0.Coords) (k0_t3 : Fin (k0_t3_loop i).trips) : Fin 2 → Nat :=
  let c0_33 : Index := 0#32
  let arg2 : BitVec 32 := BitVec.ofNat 32 (i 2).val
  let c128000_i32 : BitVec 32 := 128000#32
  let v8 : BitVec 32 := Scalar.muli arg2 c128000_i32
  let c0_i32_21 : BitVec 32 := 0#32
  let c1_i32_23 : BitVec 32 := 1#32
  let arg8 : BitVec 32 := Scf.iv c0_i32_21 c1_i32_23 k0_t3
  let c3200_i32_32 : BitVec 32 := 3200#32
  let v72 : BitVec 32 := Scalar.muli arg8 c3200_i32_32
  let v73 : BitVec 32 := Scalar.addi v8 v72
  let v74 : Index := Scalar.indexCast v73
  ![0, v74.toNat]
def k0_off8 (i : grid0.Coords) (k0_t3 : Fin (k0_t3_loop i).trips) : Fin 2 → Nat :=
  let c0_35 : Index := 0#32
  let c0_i32_21 : BitVec 32 := 0#32
  let c1_i32_23 : BitVec 32 := 1#32
  let arg8 : BitVec 32 := Scf.iv c0_i32_21 c1_i32_23 k0_t3
  let c3200_i32_34 : BitVec 32 := 3200#32
  let v78 : BitVec 32 := Scalar.muli arg8 c3200_i32_34
  let v79 : Index := Scalar.indexCast v78
  ![0, v79.toNat]
@[reducible] def k0_t4_loop (i : grid0.Coords) : Scf.Loop 32 :=
  let c0_i32_21 : BitVec 32 := 0#32
  let arg2 : BitVec 32 := BitVec.ofNat 32 (i 2).val
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c3200_i32 : BitVec 32 := 3200#32
  let c0_i32_16 : BitVec 32 := 0#32
  let v43 : BitVec 1 := Scalar.cmpi .sgt c3200_i32 c0_i32_16
  let v44 : BitVec 32 := Scalar.extui v43
  let c0_i32_17 : BitVec 32 := 0#32
  let v45 : BitVec 1 := Scalar.cmpi .slt c3200_i32 c0_i32_17
  let v46 : BitVec 32 := Scalar.extui v45
  let v47 : BitVec 32 := Scalar.subi v44 v46
  let v48 : BitVec 1 := Scalar.cmpi .ne v42 v47
  let v49 : BitVec 32 := Scalar.remsi v36 c3200_i32
  let c0_i32_18 : BitVec 32 := 0#32
  let v50 : BitVec 1 := Scalar.cmpi .ne v49 c0_i32_18
  let v51 : BitVec 1 := Scalar.andi v48 v50
  let v37 : BitVec 32 := Scalar.divsi v36 c3200_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let v55 : BitVec 32 := Scalar.addi c0_i32_21 v54
  let c1_i32_24 : BitVec 32 := 1#32
  ⟨v58, v55, c1_i32_24⟩
def k0_off9 (i : grid0.Coords) (k0_t4 : Fin (k0_t4_loop i).trips) : Fin 2 → Nat :=
  let c0_33 : Index := 0#32
  let arg2 : BitVec 32 := BitVec.ofNat 32 (i 2).val
  let c128000_i32 : BitVec 32 := 128000#32
  let v8 : BitVec 32 := Scalar.muli arg2 c128000_i32
  let c0_i32_21 : BitVec 32 := 0#32
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c3200_i32 : BitVec 32 := 3200#32
  let c0_i32_16 : BitVec 32 := 0#32
  let v43 : BitVec 1 := Scalar.cmpi .sgt c3200_i32 c0_i32_16
  let v44 : BitVec 32 := Scalar.extui v43
  let c0_i32_17 : BitVec 32 := 0#32
  let v45 : BitVec 1 := Scalar.cmpi .slt c3200_i32 c0_i32_17
  let v46 : BitVec 32 := Scalar.extui v45
  let v47 : BitVec 32 := Scalar.subi v44 v46
  let v48 : BitVec 1 := Scalar.cmpi .ne v42 v47
  let v49 : BitVec 32 := Scalar.remsi v36 c3200_i32
  let c0_i32_18 : BitVec 32 := 0#32
  let v50 : BitVec 1 := Scalar.cmpi .ne v49 c0_i32_18
  let v51 : BitVec 1 := Scalar.andi v48 v50
  let v37 : BitVec 32 := Scalar.divsi v36 c3200_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_24 : BitVec 32 := 1#32
  let arg8 : BitVec 32 := Scf.iv v58 c1_i32_24 k0_t4
  let c3200_i32_32 : BitVec 32 := 3200#32
  let v72 : BitVec 32 := Scalar.muli arg8 c3200_i32_32
  let v73 : BitVec 32 := Scalar.addi v8 v72
  let v74 : Index := Scalar.indexCast v73
  ![0, v74.toNat]
def k0_off10 (i : grid0.Coords) (k0_t4 : Fin (k0_t4_loop i).trips) : Fin 2 → Nat :=
  let c0_35 : Index := 0#32
  let c0_i32_21 : BitVec 32 := 0#32
  let arg2 : BitVec 32 := BitVec.ofNat 32 (i 2).val
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_14 : BitVec 32 := 0#32
  let v38 : BitVec 1 := Scalar.cmpi .sgt v36 c0_i32_14
  let v39 : BitVec 32 := Scalar.extui v38
  let c0_i32_15 : BitVec 32 := 0#32
  let v40 : BitVec 1 := Scalar.cmpi .slt v36 c0_i32_15
  let v41 : BitVec 32 := Scalar.extui v40
  let v42 : BitVec 32 := Scalar.subi v39 v41
  let c3200_i32 : BitVec 32 := 3200#32
  let c0_i32_16 : BitVec 32 := 0#32
  let v43 : BitVec 1 := Scalar.cmpi .sgt c3200_i32 c0_i32_16
  let v44 : BitVec 32 := Scalar.extui v43
  let c0_i32_17 : BitVec 32 := 0#32
  let v45 : BitVec 1 := Scalar.cmpi .slt c3200_i32 c0_i32_17
  let v46 : BitVec 32 := Scalar.extui v45
  let v47 : BitVec 32 := Scalar.subi v44 v46
  let v48 : BitVec 1 := Scalar.cmpi .ne v42 v47
  let v49 : BitVec 32 := Scalar.remsi v36 c3200_i32
  let c0_i32_18 : BitVec 32 := 0#32
  let v50 : BitVec 1 := Scalar.cmpi .ne v49 c0_i32_18
  let v51 : BitVec 1 := Scalar.andi v48 v50
  let v37 : BitVec 32 := Scalar.divsi v36 c3200_i32
  let c1_i32_19 : BitVec 32 := 1#32
  let v52 : BitVec 32 := Scalar.subi v37 c1_i32_19
  let v53 : BitVec 32 := Scalar.select v51 v52 v37
  let v54 : BitVec 32 := Scalar.subi v53 c0_i32_21
  let c1_i32_22 : BitVec 32 := 1#32
  let v56 : BitVec 32 := Scalar.divsi v54 c1_i32_22
  let v57 : BitVec 32 := Scalar.muli v56 c1_i32_22
  let v58 : BitVec 32 := Scalar.addi c0_i32_21 v57
  let c1_i32_24 : BitVec 32 := 1#32
  let arg8 : BitVec 32 := Scf.iv v58 c1_i32_24 k0_t4
  let c3200_i32_34 : BitVec 32 := 3200#32
  let v78 : BitVec 32 := Scalar.muli arg8 c3200_i32_34
  let v79 : Index := Scalar.indexCast v78
  ![0, v79.toNat]
def k0_cond5 (i : grid0.Coords) : BitVec 1 :=
  let arg2 : BitVec 32 := BitVec.ofNat 32 (i 2).val
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c3200_i32_25 : BitVec 32 := 3200#32
  let c0_i32_26 : BitVec 32 := 0#32
  let v59 : BitVec 1 := Scalar.cmpi .eq c3200_i32_25 c0_i32_26
  let c1_i32_27 : BitVec 32 := 1#32
  let v60 : BitVec 32 := Scalar.select v59 c1_i32_27 c3200_i32_25
  let v61 : BitVec 32 := Scalar.remsi v36 v60
  let c0_i32_29 : BitVec 32 := 0#32
  let v63 : BitVec 1 := Scalar.cmpi .slt v61 c0_i32_29
  let c0_i32_30 : BitVec 32 := 0#32
  let v64 : BitVec 1 := Scalar.cmpi .slt v60 c0_i32_30
  let v65 : BitVec 1 := Scalar.xori v63 v64
  let c0_i32_28 : BitVec 32 := 0#32
  let v62 : BitVec 1 := Scalar.cmpi .ne v61 c0_i32_28
  let v66 : BitVec 1 := Scalar.andi v65 v62
  let v67 : BitVec 32 := Scalar.addi v61 v60
  let v68 : BitVec 32 := Scalar.select v66 v67 v61
  let c1600_i32 : BitVec 32 := 1600#32
  let v69 : BitVec 1 := Scalar.cmpi .eq v68 c1600_i32
  let v70 : BitVec 32 := Scalar.extui v69
  let c0_i32_31 : BitVec 32 := 0#32
  let v71 : BitVec 1 := Scalar.cmpi .ne v70 c0_i32_31
  v71

def k0_off11 (i : grid0.Coords) : Fin 2 → Nat :=
  let c0_40 : Index := 0#32
  let arg2 : BitVec 32 := BitVec.ofNat 32 (i 2).val
  let c128000_i32 : BitVec 32 := 128000#32
  let v8 : BitVec 32 := Scalar.muli arg2 c128000_i32
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_33 : BitVec 32 := 0#32
  let v73 : BitVec 1 := Scalar.cmpi .sgt v36 c0_i32_33
  let v74 : BitVec 32 := Scalar.extui v73
  let c0_i32_34 : BitVec 32 := 0#32
  let v75 : BitVec 1 := Scalar.cmpi .slt v36 c0_i32_34
  let v76 : BitVec 32 := Scalar.extui v75
  let v77 : BitVec 32 := Scalar.subi v74 v76
  let c3200_i32_32 : BitVec 32 := 3200#32
  let c0_i32_35 : BitVec 32 := 0#32
  let v78 : BitVec 1 := Scalar.cmpi .sgt c3200_i32_32 c0_i32_35
  let v79 : BitVec 32 := Scalar.extui v78
  let c0_i32_36 : BitVec 32 := 0#32
  let v80 : BitVec 1 := Scalar.cmpi .slt c3200_i32_32 c0_i32_36
  let v81 : BitVec 32 := Scalar.extui v80
  let v82 : BitVec 32 := Scalar.subi v79 v81
  let v83 : BitVec 1 := Scalar.cmpi .ne v77 v82
  let v84 : BitVec 32 := Scalar.remsi v36 c3200_i32_32
  let c0_i32_37 : BitVec 32 := 0#32
  let v85 : BitVec 1 := Scalar.cmpi .ne v84 c0_i32_37
  let v86 : BitVec 1 := Scalar.andi v83 v85
  let v72 : BitVec 32 := Scalar.divsi v36 c3200_i32_32
  let c1_i32_38 : BitVec 32 := 1#32
  let v87 : BitVec 32 := Scalar.subi v72 c1_i32_38
  let v88 : BitVec 32 := Scalar.select v86 v87 v72
  let c3200_i32_39 : BitVec 32 := 3200#32
  let v89 : BitVec 32 := Scalar.muli v88 c3200_i32_39
  let v90 : BitVec 32 := Scalar.addi v8 v89
  let v91 : Index := Scalar.indexCast v90
  ![0, v91.toNat]
def k0_off12 (i : grid0.Coords) : Fin 2 → Nat :=
  let c0_41 : Index := 0#32
  let arg2 : BitVec 32 := BitVec.ofNat 32 (i 2).val
  let c7_i32_12 : BitVec 32 := 7#32
  let v35 : BitVec 1 := Scalar.cmpi .eq arg2 c7_i32_12
  let c104000_i32 : BitVec 32 := 104000#32
  let c128000_i32_13 : BitVec 32 := 128000#32
  let v36 : BitVec 32 := Scalar.select v35 c104000_i32 c128000_i32_13
  let c0_i32_33 : BitVec 32 := 0#32
  let v73 : BitVec 1 := Scalar.cmpi .sgt v36 c0_i32_33
  let v74 : BitVec 32 := Scalar.extui v73
  let c0_i32_34 : BitVec 32 := 0#32
  let v75 : BitVec 1 := Scalar.cmpi .slt v36 c0_i32_34
  let v76 : BitVec 32 := Scalar.extui v75
  let v77 : BitVec 32 := Scalar.subi v74 v76
  let c3200_i32_32 : BitVec 32 := 3200#32
  let c0_i32_35 : BitVec 32 := 0#32
  let v78 : BitVec 1 := Scalar.cmpi .sgt c3200_i32_32 c0_i32_35
  let v79 : BitVec 32 := Scalar.extui v78
  let c0_i32_36 : BitVec 32 := 0#32
  let v80 : BitVec 1 := Scalar.cmpi .slt c3200_i32_32 c0_i32_36
  let v81 : BitVec 32 := Scalar.extui v80
  let v82 : BitVec 32 := Scalar.subi v79 v81
  let v83 : BitVec 1 := Scalar.cmpi .ne v77 v82
  let v84 : BitVec 32 := Scalar.remsi v36 c3200_i32_32
  let c0_i32_37 : BitVec 32 := 0#32
  let v85 : BitVec 1 := Scalar.cmpi .ne v84 c0_i32_37
  let v86 : BitVec 1 := Scalar.andi v83 v85
  let v72 : BitVec 32 := Scalar.divsi v36 c3200_i32_32
  let c1_i32_38 : BitVec 32 := 1#32
  let v87 : BitVec 32 := Scalar.subi v72 c1_i32_38
  let v88 : BitVec 32 := Scalar.select v86 v87 v72
  let c3200_i32_39 : BitVec 32 := 3200#32
  let v89 : BitVec 32 := Scalar.muli v88 c3200_i32_39
  let v95 : Index := Scalar.indexCast v89
  ![0, v95.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S8x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceIdeal.lean ====
abbrev S32x1000000 : Shape := ⟨2, ![32, 1000000]⟩
abbrev S_ : Shape := ⟨0, ![]⟩
abbrev S1 : Shape := ⟨1, ![1]⟩
abbrev S2 : Shape := ⟨1, ![2]⟩
abbrev S1x1 : Shape := ⟨2, ![1, 1]⟩
abbrev S32 : Shape := ⟨1, ![32]⟩
abbrev S32x1 : Shape := ⟨2, ![32, 1]⟩

abbrev nBuf : Space → Nat
  | .hbm => 307
  | .vmem => 0
  | .smem => 0
  | _ => 0

abbrev hbmTy0_0 (i : Nat) : BufTy := match i % 128 with
  | 0 => ⟨S32x1000000, .f32⟩
  | 1 => ⟨S_, .f32⟩
  | 2 => ⟨S_, .f32⟩
  | 3 => ⟨S32x1000000, .f32⟩
  | 4 => ⟨S32x1000000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S32x1000000, .i64⟩
  | 26 => ⟨S32x1000000, .i64⟩
  | 27 => ⟨S_, .i64⟩
  | 28 => ⟨S32x1000000, .i64⟩
  | 29 => ⟨S32x1000000, .i64⟩
  | 30 => ⟨S_, .i64⟩
  | 31 => ⟨S32x1000000, .i64⟩
  | 32 => ⟨S32x1000000, .i64⟩
  | 33 => ⟨S32x1000000, .i64⟩
  | 34 => ⟨S_, .i64⟩
  | 35 => ⟨S32x1000000, .i64⟩
  | 36 => ⟨S32x1000000, .i64⟩
  | 37 => ⟨S32x1000000, .i32⟩
  | 38 => ⟨S32x1000000, .i32⟩
  | 39 => ⟨S_, .i32⟩
  | 40 => ⟨S_, .i32⟩
  | 41 => ⟨S_, .i32⟩
  | 42 => ⟨S32x1000000, .i32⟩
  | 43 => ⟨S32x1000000, .i32⟩
  | 44 => ⟨S32x1000000, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S32x1000000, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S32x1000000, .i32⟩
  | 30 => ⟨S32x1000000, .i32⟩
  | 31 => ⟨S32x1000000, .i32⟩
  | 32 => ⟨S_, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S32x1000000, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S32x1000000, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_2 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .f32⟩
  | 13 => ⟨S_, .f32⟩
  | 14 => ⟨S32x1000000, .f32⟩
  | 15 => ⟨S32x1000000, .f32⟩
  | 16 => ⟨S1x1, .f32⟩
  | 17 => ⟨S32x1000000, .f32⟩
  | 18 => ⟨S32x1000000, .f32⟩
  | 19 => ⟨S32x1000000, .f32⟩
  | 20 => ⟨S32x1000000, .f32⟩
  | 21 => ⟨S32x1000000, .f32⟩
  | 22 => ⟨S32x1000000, .f32⟩
  | 23 => ⟨S_, .f32⟩
  | 24 => ⟨S32x1000000, .f32⟩
  | 25 => ⟨S32x1000000, .f32⟩
  | 26 => ⟨S32x1000000, .f32⟩
  | 27 => ⟨S32x1000000, .f32⟩
  | 28 => ⟨S_, .f32⟩
  | 29 => ⟨S32x1000000, .f32⟩
  | 30 => ⟨S32x1000000, .f32⟩
  | 31 => ⟨S32x1000000, .f32⟩
  | 32 => ⟨S32x1000000, .f32⟩
  | 33 => ⟨S32x1000000, .f32⟩
  | 34 => ⟨S_, .f32⟩
  | 35 => ⟨S32x1000000, .f32⟩
  | 36 => ⟨S32x1000000, .f32⟩
  | 37 => ⟨S_, .f32⟩
  | 38 => ⟨S32, .f32⟩
  | 39 => ⟨S_, .f32⟩
  | 40 => ⟨S32, .f32⟩
  | 41 => ⟨S32, .f32⟩
  | 42 => ⟨S32x1, .f32⟩
  | 43 => ⟨S32x1000000, .f32⟩
  | 44 => ⟨S32x1000000, .f32⟩
  | 45 => ⟨S32x1000000, .f32⟩
  | 46 => ⟨S_, .f32⟩
  | 47 => ⟨S32, .f32⟩
  | 48 => ⟨S32x1, .f32⟩
  | 49 => ⟨S32x1000000, .f32⟩
  | 50 => ⟨S32x1000000, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v10 : Ref sig .tc := ⟨.hbm, 278, rfl⟩
abbrev main_cst_3 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_cst_4 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_cst_5 : Ref sig .tc := ⟨.hbm, 290, rfl⟩
abbrev main_v20 : Ref sig .tc := ⟨.hbm, 291, rfl⟩
abbrev main_v21 : Ref sig .tc := ⟨.hbm, 292, rfl⟩
abbrev main_cst_6 : Ref sig .tc := ⟨.hbm, 293, rfl⟩
abbrev main_v22 : Ref sig .tc := ⟨.hbm, 294, rfl⟩
abbrev main_cst_7 : Ref sig .tc := ⟨.hbm, 295, rfl⟩
abbrev main_v23 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_cst_8 : Ref sig .tc := ⟨.hbm, 302, rfl⟩
abbrev main_v29 : Ref sig .tc := ⟨.hbm, 303, rfl⟩
abbrev main_v30 : Ref sig .tc := ⟨.hbm, 304, rfl⟩
abbrev main_v31 : Ref sig .tc := ⟨.hbm, 305, rfl⟩
abbrev main_v32 : Ref sig .tc := ⟨.hbm, 306, rfl⟩

abbrev nD : Nat := 1
abbrev τ : Topo := Topo.v7x

variable {F : FTy → Type} [FloatOps F]
-- ==== Proof.IdealBody.lean ====
/- One call of the kernel's body, whatever the buffers hold: it runs to its end, leaves its two operands as they were,
   and leaves the result block and the two scratch buffers at some contents. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.LoopRemainder

@[expose] public section

set_option maxRecDepth 16384

noncomputable section

namespace Cert.Proof.IdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The condition of the body's first branch: phase 0 and window 0. -/
abbrev cond1 (i : grid0.Coords) : BitVec 1 :=
  Scalar.cmpi .ne (Scalar.extui (Scalar.andi (Scalar.cmpi .eq (BitVec.ofNat 32 (i 1).val) 0#32)
    (Scalar.cmpi .eq (BitVec.ofNat 32 (i 2).val) 0#32)) : BitVec 32) 0#32

/-- The five buffers of a call, the operands at `X3` and `X4`, the others at some contents. -/
abbrev Held (c : Dev nD) (arg3 : Memref sig .tc .vmem S1x1 .f32) (arg4 arg5 : Memref sig .tc .vmem S8x128000 .f32)
    (arg6 : Memref sig .tc .vmem S8x1000000 .f32) (arg7 : Memref sig .tc .vmem S8x1280 .f32)
    (X3 : BufTy.Contents (Elt F) arg3.view.ty) (X4 : BufTy.Contents (Elt F) arg4.view.ty) : sProp 𝕄 :=
  iprop((arg3.view.loc (c : Thread nD τ) ↦[arg3.view.set]{fullShare} X3)
    ∗ (arg4.view.loc (c : Thread nD τ) ↦[arg4.view.set]{fullShare} X4)
    ∗ (∃ f, arg5.view.loc (c : Thread nD τ) ↦[arg5.view.set]{fullShare} f)
    ∗ (∃ f, arg6.view.loc (c : Thread nD τ) ↦[arg6.view.set]{fullShare} f)
    ∗ (∃ f, arg7.view.loc (c : Thread nD τ) ↦[arg7.view.set]{fullShare} f))

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (X3 : BufTy.Contents (Elt F) arg3.view.ty) (X4 : BufTy.Contents (Elt F) arg4.view.ty)

/-- A call in phase 0 at window 0. -/
theorem body_first (h1 : cond1 i = 1#1) (h2 : k0_cond2 i = 1#1) (h3 : ¬ k0_cond3 i = 1#1) (h4 : ¬ k0_cond4 i = 1#1) :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rw [cc0__body_eq_skeleton]
  unfold cc0__body_skel Held
  iintro ⟨H3, H4, ⟨%f5, H5⟩, ⟨%f6, H6⟩, ⟨%f7, H7⟩⟩
  sl_exec
  sl_step
  sl_close

/-- A call in phase 0 at a window between the first and the last. -/
theorem body_middle (h1 : ¬ cond1 i = 1#1) (h2 : k0_cond2 i = 1#1) (h3 : ¬ k0_cond3 i = 1#1) (h4 : ¬ k0_cond4 i = 1#1) :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rw [cc0__body_eq_skeleton]
  unfold cc0__body_skel Held
  iintro ⟨H3, H4, ⟨%f5, H5⟩, ⟨%f6, H6⟩, ⟨%f7, H7⟩⟩
  sl_exec
  sl_step
  sl_close

/-- A call in phase 0 at the last window. -/
theorem body_last (h1 : ¬ cond1 i = 1#1) (h2 : ¬ k0_cond2 i = 1#1) (h3 : k0_cond3 i = 1#1) (h4 : ¬ k0_cond4 i = 1#1) :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rw [cc0__body_eq_skeleton]
  unfold cc0__body_skel Held
  iintro ⟨H3, H4, ⟨%f5, H5⟩, ⟨%f6, H6⟩, ⟨%f7, H7⟩⟩
  sl_exec
  sl_step
  sl_close

/-- A call in phase 1 at a window before the last. -/
theorem body_scale (h1 : ¬ cond1 i = 1#1) (h2 : ¬ k0_cond2 i = 1#1) (h3 : ¬ k0_cond3 i = 1#1) (h4 : k0_cond4 i = 1#1) (h5 : ¬ k0_cond5 i = 1#1) :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rw [cc0__body_eq_skeleton]
  unfold cc0__body_skel Held
  iintro ⟨H3, H4, ⟨%f5, H5⟩, ⟨%f6, H6⟩, ⟨%f7, H7⟩⟩
  sl_exec
  sl_step
  sl_close

/-- A call in phase 1 at the last window. -/
theorem body_scale_last (h1 : ¬ cond1 i = 1#1) (h2 : ¬ k0_cond2 i = 1#1) (h3 : ¬ k0_cond3 i = 1#1) (h4 : k0_cond4 i = 1#1) (h5 : k0_cond5 i = 1#1) :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rw [cc0__body_eq_skeleton]
  unfold cc0__body_skel Held
  iintro ⟨H3, H4, ⟨%f5, H5⟩, ⟨%f6, H6⟩, ⟨%f7, H7⟩⟩
  sl_exec
  sl_step
  sl_close

/-- Which branches a grid point takes: one of the five above. -/
theorem branches : ∀ i : grid0.Coords,
    (cond1 i = 1#1 ∧ k0_cond2 i = 1#1 ∧ ¬ k0_cond3 i = 1#1 ∧ ¬ k0_cond4 i = 1#1)
      ∨ (¬ cond1 i = 1#1 ∧ k0_cond2 i = 1#1 ∧ ¬ k0_cond3 i = 1#1 ∧ ¬ k0_cond4 i = 1#1)
      ∨ (¬ cond1 i = 1#1 ∧ ¬ k0_cond2 i = 1#1 ∧ k0_cond3 i = 1#1 ∧ ¬ k0_cond4 i = 1#1)
      ∨ (¬ cond1 i = 1#1 ∧ ¬ k0_cond2 i = 1#1 ∧ ¬ k0_cond3 i = 1#1 ∧ k0_cond4 i = 1#1 ∧ ¬ k0_cond5 i = 1#1)
      ∨ (¬ cond1 i = 1#1 ∧ ¬ k0_cond2 i = 1#1 ∧ ¬ k0_cond3 i = 1#1 ∧ k0_cond4 i = 1#1 ∧ k0_cond5 i = 1#1) := by
  decide +kernel

/-- A call at any grid point. -/
theorem body_any :
    Held c arg3 arg4 arg5 arg6 arg7 X3 X4
      ⊢ wp frame (wpE (defs₀ (F := F)) 𝒱 (c : Thread nD τ) bd) Set.univ
        (cc0__body i arg3 harg3 arg4 harg4 arg5 harg5 arg6 harg6 arg7 harg7)
        (fun _ => Held c arg3 arg4 arg5 arg6 arg7 X3 X4) := by
  rcases branches i with ⟨h1, h2, h3, h4⟩ | ⟨h1, h2, h3, h4⟩ | ⟨h1, h2, h3, h4⟩ | ⟨h1, h2, h3, h4, h5⟩ | ⟨h1, h2, h3, h4, h5⟩
  · exact body_first 𝒱 c bd i arg3 harg3 arg4 harg4 arg5 harg5 arg6 harg6 arg7 harg7 X3 X4 h1 h2 h3 h4
  · exact body_middle 𝒱 c bd i arg3 harg3 arg4 harg4 arg5 harg5 arg6 harg6 arg7 harg7 X3 X4 h1 h2 h3 h4
  · exact body_last 𝒱 c bd i arg3 harg3 arg4 harg4 arg5 harg5 arg6 harg6 arg7 harg7 X3 X4 h1 h2 h3 h4
  · exact body_scale 𝒱 c bd i arg3 harg3 arg4 harg4 arg5 harg5 arg6 harg6 arg7 harg7 X3 X4 h1 h2 h3 h4 h5
  · exact body_scale_last 𝒱 c bd i arg3 harg3 arg4 harg4 arg5 harg5 arg6 harg6 arg7 harg7 X3 X4 h1 h2 h3 h4 h5

end

end Cert.Proof.IdealFrame

end
-- ==== Proof.IdealFrame.lean ====
/- The frame of the kernel as printed: it runs to its end from any memory, leaves both arguments as they were and every
   semaphore counter at zero. Nothing is said of what it computes. -/
module

public import proofs.«01_k».proof.Proof.IdealBody

@[expose] public section

set_option maxRecDepth 16384

noncomputable section

namespace Cert.Proof.IdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, nothing said of what the body leaves in a window, the scratch
    buffers at some contents between points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body as the pipeline calls it at a point. -/
theorem defs₀_row (t : Fin cfg0.N) : defs₀ (F := F) .tc cfg0.body (cfg0.bodyArgs t (cfg0.slots t)) = bodyAt0 t := by
  unfold defs₀; rw [Defs.onTc_tc]

/-- What the body is called with at point `t`, and what it hands back: the invariant, the debts, the three staging buffers. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2))
/-- What the body leaves at a point. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X))

/-- The body's triple at a point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl,
    show (rdat m c).Φ t.castSucc = Pipeline.ΦA spec0 c from rfl,
    show (rdat m c).Φ t.succ = Pipeline.ΦA spec0 c from rfl]
  unfold Pipeline.ΦA owns
  rw [scopedRest0_eq]
  iintro ⟨⟨⟨⟨%f6, H6⟩, ⟨%f7, H7⟩⟩, Hg⟩, HO, ⟨%f3, %h3, H3⟩, ⟨%f4, %h4, H4⟩, ⟨%f5, %h5, H5⟩⟩
  iapply (wp_wand_r Idealize.ShloMosaic.frame (wpE (defs₀ (F := F)) Variants.none (c : Thread nD τ) none) Set.univ)
  isplitl [H3 H4 H5 H6 H7]
  · iapply (body_any (F := F) Variants.none c none (grid0.coords t) _ (hstage0_0 ((cfg0.slots t 0).cast nbuf0_0))
      _ (hstage0_1 ((cfg0.slots t 1).cast nbuf0_1)) _ (hstage0_2 ((cfg0.slots t 2).cast nbuf0_2))
      (Memref.whole cc0_scratch0) (Memref.isWhole_whole _) (Memref.whole cc0_scratch1) (Memref.isWhole_whole _) f3 f4)
    isplitl [H3]; · iexact H3
    isplitl [H4]; · iexact H4
    isplitl [H5]; · iexists f5; iexact H5
    isplitl [H6]; · iexists f6; simp only [Memref.view_whole, View.set_whole]; iexact H6
    iexists f7; simp only [Memref.view_whole, View.set_whole]; iexact H7
  · iintro %_ ⟨H3, H4, ⟨%g5, H5⟩, ⟨%g6, H6⟩, ⟨%g7, H7⟩⟩
    isplitl [H6 H7 Hg]
    · isplitr [Hg]
      · isplitl [H6]
        · iexists g6; simp only [Memref.view_whole, View.set_whole]; iexact H6
        · iexists g7; simp only [Memref.view_whole, View.set_whole]; iexact H7
      · iexact Hg
    isplitl [HO]; · iexact HO
    isplitl [H3]
    · iexists ((st0_0 t).view.read (Elt F) f3); isplitr; · ipureintro; trivial
      iexists f3; isplitr; · ipureintro; rfl
      iexact H3
    isplitl [H4]
    · iexists ((st0_1 t).view.read (Elt F) f4); isplitr; · ipureintro; trivial
      iexists f4; isplitr; · ipureintro; rfl
      iexact H4
    iexists ((st0_2 t).view.read (Elt F) g5); isplitr; · ipureintro; trivial
    iexists g5; isplitr; · ipureintro; rfl
    iexact H5

/-- The body obligation at every point. -/
theorem body_ok (c : Dev nD) : (rdat (F := F) m c).BodyObligation defs₀ Variants.none () Set.univ := fun t Y _ => by
  rw [bigSep_W0, bigSep_W0, defs₀_row]
  exact triple_restated (sound_body m c t Y) rfl .rfl fun _ => .rfl

/-- The run from any memory: the arguments as launched, the counters at zero. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  RDat.θ_run_frame_track cfgs 0 launch0 defs₀ Variants.none (fun c => rdat m c) m ρ main (fun c => body_ok m c)
    (fun c w => by unfold RDat.share; split <;> rfl) (fun _ _ => rfl) (V m) (hmain m Variants.none) (fun _ _ => rfl)
    (fun _ => .rfl) (fun _ => .rfl) _ (fun r h => ⟨fun c =>
      ⟨(Pipeline.RDat.FramePost.arr_in h.1 c 1 rfl).trans (V_main_arg0 m c),
        ((h.1 c).2 main_arg1 (Pipeline.mem_restRefs_of main_arg1 (by decide) (by decide))).trans (V_main_arg1 m c)⟩, h.2⟩)

end Cert.Proof.IdealFrame

end
-- ==== Proof.RefOps.lean ====
/- The reference program as a list of its 305 host operations, in runs of thirty: the list is the program (`main_eq`),
   its operations touch only the buffers of the core (`ops_sub`) and make none afresh (`ops_fresh`). -/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v9`, named. It packs its operands into a list of dependent pairs
    whose shapes a later argument's type mentions, so `simp` cannot rewrite an operand where it stands; applied by
    name, the operands are plain arguments, which the window lemmas below rewrite before the name unfolds. -/
def fn_main_v9 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 305 (@main, which the printer did not cut). -/
abbrev ops_0 : List (HloOp τ sig (Elt F)) :=
  [ unary main_arg1 main_v0 (Host.exp : (⟨S_, .f32⟩ : BufTy).Contents (Elt F) → (⟨S_, .f32⟩ : BufTy).Contents (Elt F)),
    unary main_v0 main_v1 (broadcastInDim S32x1000000 ![] bcast_S_S32x1000000 : (⟨S_, .f32⟩ : BufTy).Contents (Elt F) → (⟨S32x1000000, .f32⟩ : BufTy).Contents (Elt F)),
    binary main_arg0 main_v1 main_v2 (mulf : (⟨S32x1000000, .f32⟩ : BufTy).Contents (Elt F) → (⟨S32x1000000, .f32⟩ : BufTy).Contents (Elt F) → (⟨S32x1000000, .f32⟩ : BufTy).Contents (Elt F)),
    nullary main_c (constantI S_ 32 42#32),
    nullary main_c_0 (constantI S_ 32 32#32),
    binary main_c main_c_0 main_v3 (Host.shrui : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v6 (andi : (⟨S_, .i32⟩ : BufTy).Contents (Elt F) → (⟨S_, .i32⟩ : BufTy).Contents (Elt F) → (⟨S_, .i32⟩ : BufTy).Contents (Elt F)),
    unary main_v6 main_v7 (id : (⟨S_, .i32⟩ : BufTy).Contents (Elt F) → (⟨S_, .i32⟩ : BufTy).Contents (Elt F)),
    unary main_v7 main_v8 (broadcastInDim S1 ![] bcast_S_S1 : (⟨S_, .i32⟩ : BufTy).Contents (Elt F) → (⟨S1, .i32⟩ : BufTy).Contents (Elt F)),
    binary main_v5 main_v8 main_v9 (fn_main_v9 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v9) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v9) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S32x1000000, .i64⟩) main_call0_v8) (iotaInDim S32x1000000 64 0),
    TRef.nullary (TRef.of (T := ⟨S32x1000000, .i64⟩) main_call0_v9) (iotaInDim S32x1000000 64 1),
    TRef.nullary (TRef.of (T := ⟨S_, .i64⟩) main_call0_c) (constantI S_ 64 1000000#64),
    TRef.unary (TRef.of (T := ⟨S_, .i64⟩) main_call0_c) (TRef.of (T := ⟨S32x1000000, .i64⟩) main_call0_v10) (broadcastInDim S32x1000000 ![] bcast_S_S32x1000000),
    TRef.binary (TRef.of (T := ⟨S32x1000000, .i64⟩) main_call0_v10) (TRef.of (T := ⟨S32x1000000, .i64⟩) main_call0_v8) (TRef.of (T := ⟨S32x1000000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S32x1000000, .i64⟩) main_call0_v12) (broadcastInDim S32x1000000 ![] bcast_S_S32x1000000) ]

/-- @main's operations 31 … 60 of 305 (@main, which the printer did not cut). -/
abbrev ops_1 : List (HloOp τ sig (Elt F)) :=
  [ TRef.binary (TRef.of (T := ⟨S32x1000000, .i64⟩) main_call0_v12) (TRef.of (T := ⟨S32x1000000, .i64⟩) main_call0_v9) (TRef.of (T := ⟨S32x1000000, .i64⟩) main_call0_v13) muli,
    TRef.binary (TRef.of (T := ⟨S32x1000000, .i64⟩) main_call0_v11) (TRef.of (T := ⟨S32x1000000, .i64⟩) main_call0_v13) (TRef.of (T := ⟨S32x1000000, .i64⟩) main_call0_v14) addi,
    TRef.nullary (TRef.of (T := ⟨S_, .i64⟩) main_call0_c_1) (constantI S_ 64 32#64),
    TRef.unary (TRef.of (T := ⟨S_, .i64⟩) main_call0_c_1) (TRef.of (T := ⟨S32x1000000, .i64⟩) main_call0_v15) (broadcastInDim S32x1000000 ![] bcast_S_S32x1000000),
    TRef.binary (TRef.of (T := ⟨S32x1000000, .i64⟩) main_call0_v14) (TRef.of (T := ⟨S32x1000000, .i64⟩) main_call0_v15) (TRef.of (T := ⟨S32x1000000, .i64⟩) main_call0_v16) Host.shrui,
    TRef.unary (TRef.of (T := ⟨S32x1000000, .i64⟩) main_call0_v14) (TRef.of (T := ⟨S32x1000000, .i32⟩) main_call0_v17) (trunci 32 · natLt_32_64),
    TRef.unary (TRef.of (T := ⟨S32x1000000, .i64⟩) main_call0_v16) (TRef.of (T := ⟨S32x1000000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S32x1000000, .i32⟩) main_call0_call0_v2) (broadcastInDim S32x1000000 ![] bcast_S_S32x1000000),
    TRef.binary (TRef.of (T := ⟨S32x1000000, .i32⟩) main_call0_v18) (TRef.of (T := ⟨S32x1000000, .i32⟩) main_call0_call0_v2) (TRef.of (T := ⟨S32x1000000, .i32⟩) main_call0_call0_v3) addi,
    TRef.unary (TRef.of (T := ⟨S_, .i32⟩) main_call0_v7) (TRef.of (T := ⟨S32x1000000, .i32⟩) main_call0_call0_v4) (broadcastInDim S32x1000000 ![] bcast_S_S32x1000000),
    TRef.binary (TRef.of (T := ⟨S32x1000000, .i32⟩) main_call0_v17) (TRef.of (T := ⟨S32x1000000, .i32⟩) main_call0_call0_v4) (TRef.of (T := ⟨S32x1000000, .i32⟩) main_call0_call0_v5) addi,
    TRef.binary (TRef.of (T := ⟨S32x1000000, .i32⟩) main_call0_call0_v3) (TRef.of (T := ⟨S32x1000000, .i32⟩) main_call0_call0_v5) (TRef.of (T := ⟨S32x1000000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S32x1000000, .i32⟩) main_call0_call0_v7) (broadcastInDim S32x1000000 ![] bcast_S_S32x1000000),
    TRef.binary (TRef.of (T := ⟨S32x1000000, .i32⟩) main_call0_call0_v5) (TRef.of (T := ⟨S32x1000000, .i32⟩) main_call0_call0_v7) (TRef.of (T := ⟨S32x1000000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S32x1000000, .i32⟩) main_call0_call0_v9) (broadcastInDim S32x1000000 ![] bcast_S_S32x1000000),
    TRef.binary (TRef.of (T := ⟨S32x1000000, .i32⟩) main_call0_call0_v5) (TRef.of (T := ⟨S32x1000000, .i32⟩) main_call0_call0_v9) (TRef.of (T := ⟨S32x1000000, .i32⟩) main_call0_call0_v10) Host.shrui,
    TRef.binary (TRef.of (T := ⟨S32x1000000, .i32⟩) main_call0_call0_v8) (TRef.of (T := ⟨S32x1000000, .i32⟩) main_call0_call0_v10) (TRef.of (T := ⟨S32x1000000, .i32⟩) main_call0_call0_v11) ori,
    TRef.binary (TRef.of (T := ⟨S32x1000000, .i32⟩) main_call0_call0_v6) (TRef.of (T := ⟨S32x1000000, .i32⟩) main_call0_call0_v11) (TRef.of (T := ⟨S32x1000000, .i32⟩) main_call0_call0_v12) xori,
    TRef.binary (TRef.of (T := ⟨S32x1000000, .i32⟩) main_call0_call0_v6) (TRef.of (T := ⟨S32x1000000, .i32⟩) main_call0_call0_v12) (TRef.of (T := ⟨S32x1000000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S32x1000000, .i32⟩) main_call0_call0_v14) (broadcastInDim S32x1000000 ![] bcast_S_S32x1000000),
    TRef.binary (TRef.of (T := ⟨S32x1000000, .i32⟩) main_call0_call0_v12) (TRef.of (T := ⟨S32x1000000, .i32⟩) main_call0_call0_v14) (TRef.of (T := ⟨S32x1000000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S32x1000000, .i32⟩) main_call0_call0_v16) (broadcastInDim S32x1000000 ![] bcast_S_S32x1000000),
    TRef.binary (TRef.of (T := ⟨S32x1000000, .i32⟩) main_call0_call0_v12) (TRef.of (T := ⟨S32x1000000, .i32⟩) main_call0_call0_v16) (TRef.of (T := ⟨S32x1000000, .i32⟩) main_call0_call0_v17) Host.shrui ]

/-- @main's operations 61 … 90 of 305 (@main, which the printer did not cut). -/
abbrev ops_2 : List (HloOp τ sig (Elt F)) :=
  [ TRef.binary (TRef.of (T := ⟨S32x1000000, .i32⟩) main_call0_call0_v15) (TRef.of (T := ⟨S32x1000000, .i32⟩) main_call0_call0_v17) (TRef.of (T := ⟨S32x1000000, .i32⟩) main_call0_call0_v18) ori,
    TRef.binary (TRef.of (T := ⟨S32x1000000, .i32⟩) main_call0_call0_v13) (TRef.of (T := ⟨S32x1000000, .i32⟩) main_call0_call0_v18) (TRef.of (T := ⟨S32x1000000, .i32⟩) main_call0_call0_v19) xori,
    TRef.binary (TRef.of (T := ⟨S32x1000000, .i32⟩) main_call0_call0_v13) (TRef.of (T := ⟨S32x1000000, .i32⟩) main_call0_call0_v19) (TRef.of (T := ⟨S32x1000000, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S32x1000000, .i32⟩) main_call0_call0_v21) (broadcastInDim S32x1000000 ![] bcast_S_S32x1000000),
    TRef.binary (TRef.of (T := ⟨S32x1000000, .i32⟩) main_call0_call0_v19) (TRef.of (T := ⟨S32x1000000, .i32⟩) main_call0_call0_v21) (TRef.of (T := ⟨S32x1000000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S32x1000000, .i32⟩) main_call0_call0_v23) (broadcastInDim S32x1000000 ![] bcast_S_S32x1000000),
    TRef.binary (TRef.of (T := ⟨S32x1000000, .i32⟩) main_call0_call0_v19) (TRef.of (T := ⟨S32x1000000, .i32⟩) main_call0_call0_v23) (TRef.of (T := ⟨S32x1000000, .i32⟩) main_call0_call0_v24) Host.shrui,
    TRef.binary (TRef.of (T := ⟨S32x1000000, .i32⟩) main_call0_call0_v22) (TRef.of (T := ⟨S32x1000000, .i32⟩) main_call0_call0_v24) (TRef.of (T := ⟨S32x1000000, .i32⟩) main_call0_call0_v25) ori,
    TRef.binary (TRef.of (T := ⟨S32x1000000, .i32⟩) main_call0_call0_v20) (TRef.of (T := ⟨S32x1000000, .i32⟩) main_call0_call0_v25) (TRef.of (T := ⟨S32x1000000, .i32⟩) main_call0_call0_v26) xori,
    TRef.binary (TRef.of (T := ⟨S32x1000000, .i32⟩) main_call0_call0_v20) (TRef.of (T := ⟨S32x1000000, .i32⟩) main_call0_call0_v26) (TRef.of (T := ⟨S32x1000000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S32x1000000, .i32⟩) main_call0_call0_v28) (broadcastInDim S32x1000000 ![] bcast_S_S32x1000000),
    TRef.binary (TRef.of (T := ⟨S32x1000000, .i32⟩) main_call0_call0_v26) (TRef.of (T := ⟨S32x1000000, .i32⟩) main_call0_call0_v28) (TRef.of (T := ⟨S32x1000000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S32x1000000, .i32⟩) main_call0_call0_v30) (broadcastInDim S32x1000000 ![] bcast_S_S32x1000000),
    TRef.binary (TRef.of (T := ⟨S32x1000000, .i32⟩) main_call0_call0_v26) (TRef.of (T := ⟨S32x1000000, .i32⟩) main_call0_call0_v30) (TRef.of (T := ⟨S32x1000000, .i32⟩) main_call0_call0_v31) Host.shrui,
    TRef.binary (TRef.of (T := ⟨S32x1000000, .i32⟩) main_call0_call0_v29) (TRef.of (T := ⟨S32x1000000, .i32⟩) main_call0_call0_v31) (TRef.of (T := ⟨S32x1000000, .i32⟩) main_call0_call0_v32) ori,
    TRef.binary (TRef.of (T := ⟨S32x1000000, .i32⟩) main_call0_call0_v27) (TRef.of (T := ⟨S32x1000000, .i32⟩) main_call0_call0_v32) (TRef.of (T := ⟨S32x1000000, .i32⟩) main_call0_call0_v33) xori,
    TRef.unary (TRef.of (T := ⟨S_, .i32⟩) main_call0_v7) (TRef.of (T := ⟨S32x1000000, .i32⟩) main_call0_call0_v34) (broadcastInDim S32x1000000 ![] bcast_S_S32x1000000),
    TRef.binary (TRef.of (T := ⟨S32x1000000, .i32⟩) main_call0_call0_v27) (TRef.of (T := ⟨S32x1000000, .i32⟩) main_call0_call0_v34) (TRef.of (T := ⟨S32x1000000, .i32⟩) main_call0_call0_v35) addi,
    TRef.unary (TRef.of (T := ⟨S_, .i32⟩) main_call0_call0_v1) (TRef.of (T := ⟨S32x1000000, .i32⟩) main_call0_call0_v36) (broadcastInDim S32x1000000 ![] bcast_S_S32x1000000),
    TRef.binary (TRef.of (T := ⟨S32x1000000, .i32⟩) main_call0_call0_v33) (TRef.of (T := ⟨S32x1000000, .i32⟩) main_call0_call0_v36) (TRef.of (T := ⟨S32x1000000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S32x1000000, .i32⟩) main_call0_call0_v38) (broadcastInDim S32x1000000 ![] bcast_S_S32x1000000),
    TRef.binary (TRef.of (T := ⟨S32x1000000, .i32⟩) main_call0_call0_v37) (TRef.of (T := ⟨S32x1000000, .i32⟩) main_call0_call0_v38) (TRef.of (T := ⟨S32x1000000, .i32⟩) main_call0_call0_v39) addi,
    TRef.binary (TRef.of (T := ⟨S32x1000000, .i32⟩) main_call0_call0_v35) (TRef.of (T := ⟨S32x1000000, .i32⟩) main_call0_call0_v39) (TRef.of (T := ⟨S32x1000000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S32x1000000, .i32⟩) main_call0_call0_v41) (broadcastInDim S32x1000000 ![] bcast_S_S32x1000000) ]

/-- @main's operations 91 … 120 of 305 (@main, which the printer did not cut). -/
abbrev ops_3 : List (HloOp τ sig (Elt F)) :=
  [ TRef.binary (TRef.of (T := ⟨S32x1000000, .i32⟩) main_call0_call0_v39) (TRef.of (T := ⟨S32x1000000, .i32⟩) main_call0_call0_v41) (TRef.of (T := ⟨S32x1000000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S32x1000000, .i32⟩) main_call0_call0_v43) (broadcastInDim S32x1000000 ![] bcast_S_S32x1000000),
    TRef.binary (TRef.of (T := ⟨S32x1000000, .i32⟩) main_call0_call0_v39) (TRef.of (T := ⟨S32x1000000, .i32⟩) main_call0_call0_v43) (TRef.of (T := ⟨S32x1000000, .i32⟩) main_call0_call0_v44) Host.shrui,
    TRef.binary (TRef.of (T := ⟨S32x1000000, .i32⟩) main_call0_call0_v42) (TRef.of (T := ⟨S32x1000000, .i32⟩) main_call0_call0_v44) (TRef.of (T := ⟨S32x1000000, .i32⟩) main_call0_call0_v45) ori,
    TRef.binary (TRef.of (T := ⟨S32x1000000, .i32⟩) main_call0_call0_v40) (TRef.of (T := ⟨S32x1000000, .i32⟩) main_call0_call0_v45) (TRef.of (T := ⟨S32x1000000, .i32⟩) main_call0_call0_v46) xori,
    TRef.binary (TRef.of (T := ⟨S32x1000000, .i32⟩) main_call0_call0_v40) (TRef.of (T := ⟨S32x1000000, .i32⟩) main_call0_call0_v46) (TRef.of (T := ⟨S32x1000000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S32x1000000, .i32⟩) main_call0_call0_v48) (broadcastInDim S32x1000000 ![] bcast_S_S32x1000000),
    TRef.binary (TRef.of (T := ⟨S32x1000000, .i32⟩) main_call0_call0_v46) (TRef.of (T := ⟨S32x1000000, .i32⟩) main_call0_call0_v48) (TRef.of (T := ⟨S32x1000000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S32x1000000, .i32⟩) main_call0_call0_v50) (broadcastInDim S32x1000000 ![] bcast_S_S32x1000000),
    TRef.binary (TRef.of (T := ⟨S32x1000000, .i32⟩) main_call0_call0_v46) (TRef.of (T := ⟨S32x1000000, .i32⟩) main_call0_call0_v50) (TRef.of (T := ⟨S32x1000000, .i32⟩) main_call0_call0_v51) Host.shrui,
    TRef.binary (TRef.of (T := ⟨S32x1000000, .i32⟩) main_call0_call0_v49) (TRef.of (T := ⟨S32x1000000, .i32⟩) main_call0_call0_v51) (TRef.of (T := ⟨S32x1000000, .i32⟩) main_call0_call0_v52) ori,
    TRef.binary (TRef.of (T := ⟨S32x1000000, .i32⟩) main_call0_call0_v47) (TRef.of (T := ⟨S32x1000000, .i32⟩) main_call0_call0_v52) (TRef.of (T := ⟨S32x1000000, .i32⟩) main_call0_call0_v53) xori,
    TRef.binary (TRef.of (T := ⟨S32x1000000, .i32⟩) main_call0_call0_v47) (TRef.of (T := ⟨S32x1000000, .i32⟩) main_call0_call0_v53) (TRef.of (T := ⟨S32x1000000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S32x1000000, .i32⟩) main_call0_call0_v55) (broadcastInDim S32x1000000 ![] bcast_S_S32x1000000),
    TRef.binary (TRef.of (T := ⟨S32x1000000, .i32⟩) main_call0_call0_v53) (TRef.of (T := ⟨S32x1000000, .i32⟩) main_call0_call0_v55) (TRef.of (T := ⟨S32x1000000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S32x1000000, .i32⟩) main_call0_call0_v57) (broadcastInDim S32x1000000 ![] bcast_S_S32x1000000),
    TRef.binary (TRef.of (T := ⟨S32x1000000, .i32⟩) main_call0_call0_v53) (TRef.of (T := ⟨S32x1000000, .i32⟩) main_call0_call0_v57) (TRef.of (T := ⟨S32x1000000, .i32⟩) main_call0_call0_v58) Host.shrui,
    TRef.binary (TRef.of (T := ⟨S32x1000000, .i32⟩) main_call0_call0_v56) (TRef.of (T := ⟨S32x1000000, .i32⟩) main_call0_call0_v58) (TRef.of (T := ⟨S32x1000000, .i32⟩) main_call0_call0_v59) ori,
    TRef.binary (TRef.of (T := ⟨S32x1000000, .i32⟩) main_call0_call0_v54) (TRef.of (T := ⟨S32x1000000, .i32⟩) main_call0_call0_v59) (TRef.of (T := ⟨S32x1000000, .i32⟩) main_call0_call0_v60) xori,
    TRef.binary (TRef.of (T := ⟨S32x1000000, .i32⟩) main_call0_call0_v54) (TRef.of (T := ⟨S32x1000000, .i32⟩) main_call0_call0_v60) (TRef.of (T := ⟨S32x1000000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S32x1000000, .i32⟩) main_call0_call0_v62) (broadcastInDim S32x1000000 ![] bcast_S_S32x1000000),
    TRef.binary (TRef.of (T := ⟨S32x1000000, .i32⟩) main_call0_call0_v60) (TRef.of (T := ⟨S32x1000000, .i32⟩) main_call0_call0_v62) (TRef.of (T := ⟨S32x1000000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S32x1000000, .i32⟩) main_call0_call0_v64) (broadcastInDim S32x1000000 ![] bcast_S_S32x1000000) ]

/-- @main's operations 121 … 150 of 305 (@main, which the printer did not cut). -/
abbrev ops_4 : List (HloOp τ sig (Elt F)) :=
  [ TRef.binary (TRef.of (T := ⟨S32x1000000, .i32⟩) main_call0_call0_v60) (TRef.of (T := ⟨S32x1000000, .i32⟩) main_call0_call0_v64) (TRef.of (T := ⟨S32x1000000, .i32⟩) main_call0_call0_v65) Host.shrui,
    TRef.binary (TRef.of (T := ⟨S32x1000000, .i32⟩) main_call0_call0_v63) (TRef.of (T := ⟨S32x1000000, .i32⟩) main_call0_call0_v65) (TRef.of (T := ⟨S32x1000000, .i32⟩) main_call0_call0_v66) ori,
    TRef.binary (TRef.of (T := ⟨S32x1000000, .i32⟩) main_call0_call0_v61) (TRef.of (T := ⟨S32x1000000, .i32⟩) main_call0_call0_v66) (TRef.of (T := ⟨S32x1000000, .i32⟩) main_call0_call0_v67) xori,
    TRef.unary (TRef.of (T := ⟨S_, .i32⟩) main_call0_call0_v1) (TRef.of (T := ⟨S32x1000000, .i32⟩) main_call0_call0_v68) (broadcastInDim S32x1000000 ![] bcast_S_S32x1000000),
    TRef.binary (TRef.of (T := ⟨S32x1000000, .i32⟩) main_call0_call0_v61) (TRef.of (T := ⟨S32x1000000, .i32⟩) main_call0_call0_v68) (TRef.of (T := ⟨S32x1000000, .i32⟩) main_call0_call0_v69) addi,
    TRef.unary (TRef.of (T := ⟨S_, .i32⟩) main_call0_v5) (TRef.of (T := ⟨S32x1000000, .i32⟩) main_call0_call0_v70) (broadcastInDim S32x1000000 ![] bcast_S_S32x1000000),
    TRef.binary (TRef.of (T := ⟨S32x1000000, .i32⟩) main_call0_call0_v67) (TRef.of (T := ⟨S32x1000000, .i32⟩) main_call0_call0_v70) (TRef.of (T := ⟨S32x1000000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S32x1000000, .i32⟩) main_call0_call0_v72) (broadcastInDim S32x1000000 ![] bcast_S_S32x1000000),
    TRef.binary (TRef.of (T := ⟨S32x1000000, .i32⟩) main_call0_call0_v71) (TRef.of (T := ⟨S32x1000000, .i32⟩) main_call0_call0_v72) (TRef.of (T := ⟨S32x1000000, .i32⟩) main_call0_call0_v73) addi,
    TRef.binary (TRef.of (T := ⟨S32x1000000, .i32⟩) main_call0_call0_v69) (TRef.of (T := ⟨S32x1000000, .i32⟩) main_call0_call0_v73) (TRef.of (T := ⟨S32x1000000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S32x1000000, .i32⟩) main_call0_call0_v75) (broadcastInDim S32x1000000 ![] bcast_S_S32x1000000),
    TRef.binary (TRef.of (T := ⟨S32x1000000, .i32⟩) main_call0_call0_v73) (TRef.of (T := ⟨S32x1000000, .i32⟩) main_call0_call0_v75) (TRef.of (T := ⟨S32x1000000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S32x1000000, .i32⟩) main_call0_call0_v77) (broadcastInDim S32x1000000 ![] bcast_S_S32x1000000),
    TRef.binary (TRef.of (T := ⟨S32x1000000, .i32⟩) main_call0_call0_v73) (TRef.of (T := ⟨S32x1000000, .i32⟩) main_call0_call0_v77) (TRef.of (T := ⟨S32x1000000, .i32⟩) main_call0_call0_v78) Host.shrui,
    TRef.binary (TRef.of (T := ⟨S32x1000000, .i32⟩) main_call0_call0_v76) (TRef.of (T := ⟨S32x1000000, .i32⟩) main_call0_call0_v78) (TRef.of (T := ⟨S32x1000000, .i32⟩) main_call0_call0_v79) ori,
    TRef.binary (TRef.of (T := ⟨S32x1000000, .i32⟩) main_call0_call0_v74) (TRef.of (T := ⟨S32x1000000, .i32⟩) main_call0_call0_v79) (TRef.of (T := ⟨S32x1000000, .i32⟩) main_call0_call0_v80) xori,
    TRef.binary (TRef.of (T := ⟨S32x1000000, .i32⟩) main_call0_call0_v74) (TRef.of (T := ⟨S32x1000000, .i32⟩) main_call0_call0_v80) (TRef.of (T := ⟨S32x1000000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S32x1000000, .i32⟩) main_call0_call0_v82) (broadcastInDim S32x1000000 ![] bcast_S_S32x1000000),
    TRef.binary (TRef.of (T := ⟨S32x1000000, .i32⟩) main_call0_call0_v80) (TRef.of (T := ⟨S32x1000000, .i32⟩) main_call0_call0_v82) (TRef.of (T := ⟨S32x1000000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S32x1000000, .i32⟩) main_call0_call0_v84) (broadcastInDim S32x1000000 ![] bcast_S_S32x1000000),
    TRef.binary (TRef.of (T := ⟨S32x1000000, .i32⟩) main_call0_call0_v80) (TRef.of (T := ⟨S32x1000000, .i32⟩) main_call0_call0_v84) (TRef.of (T := ⟨S32x1000000, .i32⟩) main_call0_call0_v85) Host.shrui,
    TRef.binary (TRef.of (T := ⟨S32x1000000, .i32⟩) main_call0_call0_v83) (TRef.of (T := ⟨S32x1000000, .i32⟩) main_call0_call0_v85) (TRef.of (T := ⟨S32x1000000, .i32⟩) main_call0_call0_v86) ori,
    TRef.binary (TRef.of (T := ⟨S32x1000000, .i32⟩) main_call0_call0_v81) (TRef.of (T := ⟨S32x1000000, .i32⟩) main_call0_call0_v86) (TRef.of (T := ⟨S32x1000000, .i32⟩) main_call0_call0_v87) xori,
    TRef.binary (TRef.of (T := ⟨S32x1000000, .i32⟩) main_call0_call0_v81) (TRef.of (T := ⟨S32x1000000, .i32⟩) main_call0_call0_v87) (TRef.of (T := ⟨S32x1000000, .i32⟩) main_call0_call0_v88) addi,
    TRef.nullary (TRef.of (T := ⟨S_, .i32⟩) main_call0_call0_c_22) (constantI S_ 32 26#32) ]

/-- @main's operations 151 … 180 of 305 (@main, which the printer did not cut). -/
abbrev ops_5 : List (HloOp τ sig (Elt F)) :=
  [ TRef.unary (TRef.of (T := ⟨S_, .i32⟩) main_call0_call0_c_22) (TRef.of (T := ⟨S32x1000000, .i32⟩) main_call0_call0_v89) (broadcastInDim S32x1000000 ![] bcast_S_S32x1000000),
    TRef.binary (TRef.of (T := ⟨S32x1000000, .i32⟩) main_call0_call0_v87) (TRef.of (T := ⟨S32x1000000, .i32⟩) main_call0_call0_v89) (TRef.of (T := ⟨S32x1000000, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S32x1000000, .i32⟩) main_call0_call0_v91) (broadcastInDim S32x1000000 ![] bcast_S_S32x1000000),
    TRef.binary (TRef.of (T := ⟨S32x1000000, .i32⟩) main_call0_call0_v87) (TRef.of (T := ⟨S32x1000000, .i32⟩) main_call0_call0_v91) (TRef.of (T := ⟨S32x1000000, .i32⟩) main_call0_call0_v92) Host.shrui,
    TRef.binary (TRef.of (T := ⟨S32x1000000, .i32⟩) main_call0_call0_v90) (TRef.of (T := ⟨S32x1000000, .i32⟩) main_call0_call0_v92) (TRef.of (T := ⟨S32x1000000, .i32⟩) main_call0_call0_v93) ori,
    TRef.binary (TRef.of (T := ⟨S32x1000000, .i32⟩) main_call0_call0_v88) (TRef.of (T := ⟨S32x1000000, .i32⟩) main_call0_call0_v93) (TRef.of (T := ⟨S32x1000000, .i32⟩) main_call0_call0_v94) xori,
    TRef.binary (TRef.of (T := ⟨S32x1000000, .i32⟩) main_call0_call0_v88) (TRef.of (T := ⟨S32x1000000, .i32⟩) main_call0_call0_v94) (TRef.of (T := ⟨S32x1000000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S32x1000000, .i32⟩) main_call0_call0_v96) (broadcastInDim S32x1000000 ![] bcast_S_S32x1000000),
    TRef.binary (TRef.of (T := ⟨S32x1000000, .i32⟩) main_call0_call0_v94) (TRef.of (T := ⟨S32x1000000, .i32⟩) main_call0_call0_v96) (TRef.of (T := ⟨S32x1000000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S32x1000000, .i32⟩) main_call0_call0_v98) (broadcastInDim S32x1000000 ![] bcast_S_S32x1000000),
    TRef.binary (TRef.of (T := ⟨S32x1000000, .i32⟩) main_call0_call0_v94) (TRef.of (T := ⟨S32x1000000, .i32⟩) main_call0_call0_v98) (TRef.of (T := ⟨S32x1000000, .i32⟩) main_call0_call0_v99) Host.shrui,
    TRef.binary (TRef.of (T := ⟨S32x1000000, .i32⟩) main_call0_call0_v97) (TRef.of (T := ⟨S32x1000000, .i32⟩) main_call0_call0_v99) (TRef.of (T := ⟨S32x1000000, .i32⟩) main_call0_call0_v100) ori,
    TRef.binary (TRef.of (T := ⟨S32x1000000, .i32⟩) main_call0_call0_v95) (TRef.of (T := ⟨S32x1000000, .i32⟩) main_call0_call0_v100) (TRef.of (T := ⟨S32x1000000, .i32⟩) main_call0_call0_v101) xori,
    TRef.unary (TRef.of (T := ⟨S_, .i32⟩) main_call0_v5) (TRef.of (T := ⟨S32x1000000, .i32⟩) main_call0_call0_v102) (broadcastInDim S32x1000000 ![] bcast_S_S32x1000000),
    TRef.binary (TRef.of (T := ⟨S32x1000000, .i32⟩) main_call0_call0_v95) (TRef.of (T := ⟨S32x1000000, .i32⟩) main_call0_call0_v102) (TRef.of (T := ⟨S32x1000000, .i32⟩) main_call0_call0_v103) addi,
    TRef.unary (TRef.of (T := ⟨S_, .i32⟩) main_call0_v7) (TRef.of (T := ⟨S32x1000000, .i32⟩) main_call0_call0_v104) (broadcastInDim S32x1000000 ![] bcast_S_S32x1000000),
    TRef.binary (TRef.of (T := ⟨S32x1000000, .i32⟩) main_call0_call0_v101) (TRef.of (T := ⟨S32x1000000, .i32⟩) main_call0_call0_v104) (TRef.of (T := ⟨S32x1000000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S32x1000000, .i32⟩) main_call0_call0_v106) (broadcastInDim S32x1000000 ![] bcast_S_S32x1000000),
    TRef.binary (TRef.of (T := ⟨S32x1000000, .i32⟩) main_call0_call0_v105) (TRef.of (T := ⟨S32x1000000, .i32⟩) main_call0_call0_v106) (TRef.of (T := ⟨S32x1000000, .i32⟩) main_call0_call0_v107) addi,
    TRef.binary (TRef.of (T := ⟨S32x1000000, .i32⟩) main_call0_call0_v103) (TRef.of (T := ⟨S32x1000000, .i32⟩) main_call0_call0_v107) (TRef.of (T := ⟨S32x1000000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S32x1000000, .i32⟩) main_call0_call0_v109) (broadcastInDim S32x1000000 ![] bcast_S_S32x1000000),
    TRef.binary (TRef.of (T := ⟨S32x1000000, .i32⟩) main_call0_call0_v107) (TRef.of (T := ⟨S32x1000000, .i32⟩) main_call0_call0_v109) (TRef.of (T := ⟨S32x1000000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S32x1000000, .i32⟩) main_call0_call0_v111) (broadcastInDim S32x1000000 ![] bcast_S_S32x1000000),
    TRef.binary (TRef.of (T := ⟨S32x1000000, .i32⟩) main_call0_call0_v107) (TRef.of (T := ⟨S32x1000000, .i32⟩) main_call0_call0_v111) (TRef.of (T := ⟨S32x1000000, .i32⟩) main_call0_call0_v112) Host.shrui ]

/-- @main's operations 181 … 210 of 305 (@main, which the printer did not cut). -/
abbrev ops_6 : List (HloOp τ sig (Elt F)) :=
  [ TRef.binary (TRef.of (T := ⟨S32x1000000, .i32⟩) main_call0_call0_v110) (TRef.of (T := ⟨S32x1000000, .i32⟩) main_call0_call0_v112) (TRef.of (T := ⟨S32x1000000, .i32⟩) main_call0_call0_v113) ori,
    TRef.binary (TRef.of (T := ⟨S32x1000000, .i32⟩) main_call0_call0_v108) (TRef.of (T := ⟨S32x1000000, .i32⟩) main_call0_call0_v113) (TRef.of (T := ⟨S32x1000000, .i32⟩) main_call0_call0_v114) xori,
    TRef.binary (TRef.of (T := ⟨S32x1000000, .i32⟩) main_call0_call0_v108) (TRef.of (T := ⟨S32x1000000, .i32⟩) main_call0_call0_v114) (TRef.of (T := ⟨S32x1000000, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S32x1000000, .i32⟩) main_call0_call0_v116) (broadcastInDim S32x1000000 ![] bcast_S_S32x1000000),
    TRef.binary (TRef.of (T := ⟨S32x1000000, .i32⟩) main_call0_call0_v114) (TRef.of (T := ⟨S32x1000000, .i32⟩) main_call0_call0_v116) (TRef.of (T := ⟨S32x1000000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S32x1000000, .i32⟩) main_call0_call0_v118) (broadcastInDim S32x1000000 ![] bcast_S_S32x1000000),
    TRef.binary (TRef.of (T := ⟨S32x1000000, .i32⟩) main_call0_call0_v114) (TRef.of (T := ⟨S32x1000000, .i32⟩) main_call0_call0_v118) (TRef.of (T := ⟨S32x1000000, .i32⟩) main_call0_call0_v119) Host.shrui,
    TRef.binary (TRef.of (T := ⟨S32x1000000, .i32⟩) main_call0_call0_v117) (TRef.of (T := ⟨S32x1000000, .i32⟩) main_call0_call0_v119) (TRef.of (T := ⟨S32x1000000, .i32⟩) main_call0_call0_v120) ori,
    TRef.binary (TRef.of (T := ⟨S32x1000000, .i32⟩) main_call0_call0_v115) (TRef.of (T := ⟨S32x1000000, .i32⟩) main_call0_call0_v120) (TRef.of (T := ⟨S32x1000000, .i32⟩) main_call0_call0_v121) xori,
    TRef.binary (TRef.of (T := ⟨S32x1000000, .i32⟩) main_call0_call0_v115) (TRef.of (T := ⟨S32x1000000, .i32⟩) main_call0_call0_v121) (TRef.of (T := ⟨S32x1000000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S32x1000000, .i32⟩) main_call0_call0_v123) (broadcastInDim S32x1000000 ![] bcast_S_S32x1000000),
    TRef.binary (TRef.of (T := ⟨S32x1000000, .i32⟩) main_call0_call0_v121) (TRef.of (T := ⟨S32x1000000, .i32⟩) main_call0_call0_v123) (TRef.of (T := ⟨S32x1000000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S32x1000000, .i32⟩) main_call0_call0_v125) (broadcastInDim S32x1000000 ![] bcast_S_S32x1000000),
    TRef.binary (TRef.of (T := ⟨S32x1000000, .i32⟩) main_call0_call0_v121) (TRef.of (T := ⟨S32x1000000, .i32⟩) main_call0_call0_v125) (TRef.of (T := ⟨S32x1000000, .i32⟩) main_call0_call0_v126) Host.shrui,
    TRef.binary (TRef.of (T := ⟨S32x1000000, .i32⟩) main_call0_call0_v124) (TRef.of (T := ⟨S32x1000000, .i32⟩) main_call0_call0_v126) (TRef.of (T := ⟨S32x1000000, .i32⟩) main_call0_call0_v127) ori,
    TRef.binary (TRef.of (T := ⟨S32x1000000, .i32⟩) main_call0_call0_v122) (TRef.of (T := ⟨S32x1000000, .i32⟩) main_call0_call0_v127) (TRef.of (T := ⟨S32x1000000, .i32⟩) main_call0_call0_v128) xori,
    TRef.binary (TRef.of (T := ⟨S32x1000000, .i32⟩) main_call0_call0_v122) (TRef.of (T := ⟨S32x1000000, .i32⟩) main_call0_call0_v128) (TRef.of (T := ⟨S32x1000000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S32x1000000, .i32⟩) main_call0_call0_v130) (broadcastInDim S32x1000000 ![] bcast_S_S32x1000000),
    TRef.binary (TRef.of (T := ⟨S32x1000000, .i32⟩) main_call0_call0_v128) (TRef.of (T := ⟨S32x1000000, .i32⟩) main_call0_call0_v130) (TRef.of (T := ⟨S32x1000000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S32x1000000, .i32⟩) main_call0_call0_v132) (broadcastInDim S32x1000000 ![] bcast_S_S32x1000000),
    TRef.binary (TRef.of (T := ⟨S32x1000000, .i32⟩) main_call0_call0_v128) (TRef.of (T := ⟨S32x1000000, .i32⟩) main_call0_call0_v132) (TRef.of (T := ⟨S32x1000000, .i32⟩) main_call0_call0_v133) Host.shrui,
    TRef.binary (TRef.of (T := ⟨S32x1000000, .i32⟩) main_call0_call0_v131) (TRef.of (T := ⟨S32x1000000, .i32⟩) main_call0_call0_v133) (TRef.of (T := ⟨S32x1000000, .i32⟩) main_call0_call0_v134) ori,
    TRef.binary (TRef.of (T := ⟨S32x1000000, .i32⟩) main_call0_call0_v129) (TRef.of (T := ⟨S32x1000000, .i32⟩) main_call0_call0_v134) (TRef.of (T := ⟨S32x1000000, .i32⟩) main_call0_call0_v135) xori,
    TRef.unary (TRef.of (T := ⟨S_, .i32⟩) main_call0_v7) (TRef.of (T := ⟨S32x1000000, .i32⟩) main_call0_call0_v136) (broadcastInDim S32x1000000 ![] bcast_S_S32x1000000) ]

/-- @main's operations 211 … 240 of 305 (@main, which the printer did not cut). -/
abbrev ops_7 : List (HloOp τ sig (Elt F)) :=
  [ TRef.binary (TRef.of (T := ⟨S32x1000000, .i32⟩) main_call0_call0_v129) (TRef.of (T := ⟨S32x1000000, .i32⟩) main_call0_call0_v136) (TRef.of (T := ⟨S32x1000000, .i32⟩) main_call0_call0_v137) addi,
    TRef.unary (TRef.of (T := ⟨S_, .i32⟩) main_call0_call0_v1) (TRef.of (T := ⟨S32x1000000, .i32⟩) main_call0_call0_v138) (broadcastInDim S32x1000000 ![] bcast_S_S32x1000000),
    TRef.binary (TRef.of (T := ⟨S32x1000000, .i32⟩) main_call0_call0_v135) (TRef.of (T := ⟨S32x1000000, .i32⟩) main_call0_call0_v138) (TRef.of (T := ⟨S32x1000000, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S32x1000000, .i32⟩) main_call0_call0_v140) (broadcastInDim S32x1000000 ![] bcast_S_S32x1000000),
    TRef.binary (TRef.of (T := ⟨S32x1000000, .i32⟩) main_call0_call0_v139) (TRef.of (T := ⟨S32x1000000, .i32⟩) main_call0_call0_v140) (TRef.of (T := ⟨S32x1000000, .i32⟩) main_call0_call0_v141) addi,
    TRef.binary (TRef.of (T := ⟨S32x1000000, .i32⟩) main_call0_call0_v137) (TRef.of (T := ⟨S32x1000000, .i32⟩) main_call0_call0_v141) (TRef.of (T := ⟨S32x1000000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S32x1000000, .i32⟩) main_call0_call0_v143) (broadcastInDim S32x1000000 ![] bcast_S_S32x1000000),
    TRef.binary (TRef.of (T := ⟨S32x1000000, .i32⟩) main_call0_call0_v141) (TRef.of (T := ⟨S32x1000000, .i32⟩) main_call0_call0_v143) (TRef.of (T := ⟨S32x1000000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S32x1000000, .i32⟩) main_call0_call0_v145) (broadcastInDim S32x1000000 ![] bcast_S_S32x1000000),
    TRef.binary (TRef.of (T := ⟨S32x1000000, .i32⟩) main_call0_call0_v141) (TRef.of (T := ⟨S32x1000000, .i32⟩) main_call0_call0_v145) (TRef.of (T := ⟨S32x1000000, .i32⟩) main_call0_call0_v146) Host.shrui,
    TRef.binary (TRef.of (T := ⟨S32x1000000, .i32⟩) main_call0_call0_v144) (TRef.of (T := ⟨S32x1000000, .i32⟩) main_call0_call0_v146) (TRef.of (T := ⟨S32x1000000, .i32⟩) main_call0_call0_v147) ori,
    TRef.binary (TRef.of (T := ⟨S32x1000000, .i32⟩) main_call0_call0_v142) (TRef.of (T := ⟨S32x1000000, .i32⟩) main_call0_call0_v147) (TRef.of (T := ⟨S32x1000000, .i32⟩) main_call0_call0_v148) xori,
    TRef.binary (TRef.of (T := ⟨S32x1000000, .i32⟩) main_call0_call0_v142) (TRef.of (T := ⟨S32x1000000, .i32⟩) main_call0_call0_v148) (TRef.of (T := ⟨S32x1000000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S32x1000000, .i32⟩) main_call0_call0_v150) (broadcastInDim S32x1000000 ![] bcast_S_S32x1000000),
    TRef.binary (TRef.of (T := ⟨S32x1000000, .i32⟩) main_call0_call0_v148) (TRef.of (T := ⟨S32x1000000, .i32⟩) main_call0_call0_v150) (TRef.of (T := ⟨S32x1000000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S32x1000000, .i32⟩) main_call0_call0_v152) (broadcastInDim S32x1000000 ![] bcast_S_S32x1000000),
    TRef.binary (TRef.of (T := ⟨S32x1000000, .i32⟩) main_call0_call0_v148) (TRef.of (T := ⟨S32x1000000, .i32⟩) main_call0_call0_v152) (TRef.of (T := ⟨S32x1000000, .i32⟩) main_call0_call0_v153) Host.shrui,
    TRef.binary (TRef.of (T := ⟨S32x1000000, .i32⟩) main_call0_call0_v151) (TRef.of (T := ⟨S32x1000000, .i32⟩) main_call0_call0_v153) (TRef.of (T := ⟨S32x1000000, .i32⟩) main_call0_call0_v154) ori,
    TRef.binary (TRef.of (T := ⟨S32x1000000, .i32⟩) main_call0_call0_v149) (TRef.of (T := ⟨S32x1000000, .i32⟩) main_call0_call0_v154) (TRef.of (T := ⟨S32x1000000, .i32⟩) main_call0_call0_v155) xori,
    TRef.binary (TRef.of (T := ⟨S32x1000000, .i32⟩) main_call0_call0_v149) (TRef.of (T := ⟨S32x1000000, .i32⟩) main_call0_call0_v155) (TRef.of (T := ⟨S32x1000000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S32x1000000, .i32⟩) main_call0_call0_v157) (broadcastInDim S32x1000000 ![] bcast_S_S32x1000000),
    TRef.binary (TRef.of (T := ⟨S32x1000000, .i32⟩) main_call0_call0_v155) (TRef.of (T := ⟨S32x1000000, .i32⟩) main_call0_call0_v157) (TRef.of (T := ⟨S32x1000000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S32x1000000, .i32⟩) main_call0_call0_v159) (broadcastInDim S32x1000000 ![] bcast_S_S32x1000000) ]

/-- @main's operations 241 … 270 of 305 (@main, which the printer did not cut). -/
abbrev ops_8 : List (HloOp τ sig (Elt F)) :=
  [ TRef.binary (TRef.of (T := ⟨S32x1000000, .i32⟩) main_call0_call0_v155) (TRef.of (T := ⟨S32x1000000, .i32⟩) main_call0_call0_v159) (TRef.of (T := ⟨S32x1000000, .i32⟩) main_call0_call0_v160) Host.shrui,
    TRef.binary (TRef.of (T := ⟨S32x1000000, .i32⟩) main_call0_call0_v158) (TRef.of (T := ⟨S32x1000000, .i32⟩) main_call0_call0_v160) (TRef.of (T := ⟨S32x1000000, .i32⟩) main_call0_call0_v161) ori,
    TRef.binary (TRef.of (T := ⟨S32x1000000, .i32⟩) main_call0_call0_v156) (TRef.of (T := ⟨S32x1000000, .i32⟩) main_call0_call0_v161) (TRef.of (T := ⟨S32x1000000, .i32⟩) main_call0_call0_v162) xori,
    TRef.binary (TRef.of (T := ⟨S32x1000000, .i32⟩) main_call0_call0_v156) (TRef.of (T := ⟨S32x1000000, .i32⟩) main_call0_call0_v162) (TRef.of (T := ⟨S32x1000000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S32x1000000, .i32⟩) main_call0_call0_v164) (broadcastInDim S32x1000000 ![] bcast_S_S32x1000000),
    TRef.binary (TRef.of (T := ⟨S32x1000000, .i32⟩) main_call0_call0_v162) (TRef.of (T := ⟨S32x1000000, .i32⟩) main_call0_call0_v164) (TRef.of (T := ⟨S32x1000000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S32x1000000, .i32⟩) main_call0_call0_v166) (broadcastInDim S32x1000000 ![] bcast_S_S32x1000000),
    TRef.binary (TRef.of (T := ⟨S32x1000000, .i32⟩) main_call0_call0_v162) (TRef.of (T := ⟨S32x1000000, .i32⟩) main_call0_call0_v166) (TRef.of (T := ⟨S32x1000000, .i32⟩) main_call0_call0_v167) Host.shrui,
    TRef.binary (TRef.of (T := ⟨S32x1000000, .i32⟩) main_call0_call0_v165) (TRef.of (T := ⟨S32x1000000, .i32⟩) main_call0_call0_v167) (TRef.of (T := ⟨S32x1000000, .i32⟩) main_call0_call0_v168) ori,
    TRef.binary (TRef.of (T := ⟨S32x1000000, .i32⟩) main_call0_call0_v163) (TRef.of (T := ⟨S32x1000000, .i32⟩) main_call0_call0_v168) (TRef.of (T := ⟨S32x1000000, .i32⟩) main_call0_call0_v169) xori,
    TRef.unary (TRef.of (T := ⟨S_, .i32⟩) main_call0_call0_v1) (TRef.of (T := ⟨S32x1000000, .i32⟩) main_call0_call0_v170) (broadcastInDim S32x1000000 ![] bcast_S_S32x1000000),
    TRef.binary (TRef.of (T := ⟨S32x1000000, .i32⟩) main_call0_call0_v163) (TRef.of (T := ⟨S32x1000000, .i32⟩) main_call0_call0_v170) (TRef.of (T := ⟨S32x1000000, .i32⟩) main_call0_v19_0) addi,
    TRef.unary (TRef.of (T := ⟨S_, .i32⟩) main_call0_v5) (TRef.of (T := ⟨S32x1000000, .i32⟩) main_call0_call0_v172) (broadcastInDim S32x1000000 ![] bcast_S_S32x1000000),
    TRef.binary (TRef.of (T := ⟨S32x1000000, .i32⟩) main_call0_call0_v169) (TRef.of (T := ⟨S32x1000000, .i32⟩) main_call0_call0_v172) (TRef.of (T := ⟨S32x1000000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S32x1000000, .i32⟩) main_call0_call0_v174) (broadcastInDim S32x1000000 ![] bcast_S_S32x1000000),
    TRef.binary (TRef.of (T := ⟨S32x1000000, .i32⟩) main_call0_call0_v173) (TRef.of (T := ⟨S32x1000000, .i32⟩) main_call0_call0_v174) (TRef.of (T := ⟨S32x1000000, .i32⟩) main_call0_v19_1) addi,
    TRef.binary (TRef.of (T := ⟨S32x1000000, .i32⟩) main_call0_v19_0) (TRef.of (T := ⟨S32x1000000, .i32⟩) main_call0_v19_1) (TRef.of (T := ⟨S32x1000000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S32x1000000, .i32⟩) main_call0_v21) (broadcastInDim S32x1000000 ![] bcast_S_S32x1000000),
    TRef.binary (TRef.of (T := ⟨S32x1000000, .i32⟩) main_call0_v20) (TRef.of (T := ⟨S32x1000000, .i32⟩) main_call0_v21) (TRef.of (T := ⟨S32x1000000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S32x1000000, .i32⟩) main_call0_v23) (broadcastInDim S32x1000000 ![] bcast_S_S32x1000000),
    TRef.binary (TRef.of (T := ⟨S32x1000000, .i32⟩) main_call0_v22) (TRef.of (T := ⟨S32x1000000, .i32⟩) main_call0_v23) (TRef.of (T := ⟨S32x1000000, .i32⟩) main_call0_v24) ori,
    TRef.unary (TRef.of (T := ⟨S32x1000000, .i32⟩) main_call0_v24) (TRef.of (T := ⟨S32x1000000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S32x1000000, .f32⟩) main_call0_v26) (broadcastInDim S32x1000000 ![] bcast_S_S32x1000000),
    TRef.binary (TRef.of (T := ⟨S32x1000000, .f32⟩) main_call0_v25) (TRef.of (T := ⟨S32x1000000, .f32⟩) main_call0_v26) (TRef.of (T := ⟨S32x1000000, .f32⟩) main_call0_v27) subf ]

/-- @main's operations 271 … 300 of 305 (@main, which the printer did not cut). -/
abbrev ops_9 : List (HloOp τ sig (Elt F)) :=
  [ TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S32x1000000, .f32⟩) main_call0_v29) (broadcastInDim S32x1000000 ![0, 1] bcast_S1x1_S32x1000000_0_1),
    TRef.binary (TRef.of (T := ⟨S32x1000000, .f32⟩) main_call0_v27) (TRef.of (T := ⟨S32x1000000, .f32⟩) main_call0_v29) (TRef.of (T := ⟨S32x1000000, .f32⟩) main_call0_v30) mulf,
    TRef.unary (TRef.of (T := ⟨S1x1, .f32⟩) main_call0_v2) (TRef.of (T := ⟨S32x1000000, .f32⟩) main_call0_v31) (broadcastInDim S32x1000000 ![0, 1] bcast_S1x1_S32x1000000_0_1),
    TRef.binary (TRef.of (T := ⟨S32x1000000, .f32⟩) main_call0_v30) (TRef.of (T := ⟨S32x1000000, .f32⟩) main_call0_v31) (TRef.of (T := ⟨S32x1000000, .f32⟩) main_call0_v32) addf,
    TRef.unary (TRef.of (T := ⟨S1x1, .f32⟩) main_call0_v2) (TRef.of (T := ⟨S32x1000000, .f32⟩) main_call0_v33) (broadcastInDim S32x1000000 ![0, 1] bcast_S1x1_S32x1000000_0_1),
    TRef.binary (TRef.of (T := ⟨S32x1000000, .f32⟩) main_call0_v33) (TRef.of (T := ⟨S32x1000000, .f32⟩) main_call0_v32) (TRef.of (T := ⟨S32x1000000, .f32⟩) main_v10) maximumf,
    nullary main_cst_3 (constant S_ .f32 0x2EDBE6FF#32),
    unary main_cst_3 main_v11 (broadcastInDim S32x1000000 ![] bcast_S_S32x1000000 : (⟨S_, .f32⟩ : BufTy).Contents (Elt F) → (⟨S32x1000000, .f32⟩ : BufTy).Contents (Elt F)),
    binary main_v10 main_v11 main_v12 (addf : (⟨S32x1000000, .f32⟩ : BufTy).Contents (Elt F) → (⟨S32x1000000, .f32⟩ : BufTy).Contents (Elt F) → (⟨S32x1000000, .f32⟩ : BufTy).Contents (Elt F)),
    unary main_v12 main_v13 (Host.log : (⟨S32x1000000, .f32⟩ : BufTy).Contents (Elt F) → (⟨S32x1000000, .f32⟩ : BufTy).Contents (Elt F)),
    unary main_v13 main_v14 (Host.negf : (⟨S32x1000000, .f32⟩ : BufTy).Contents (Elt F) → (⟨S32x1000000, .f32⟩ : BufTy).Contents (Elt F)),
    nullary main_cst_4 (constant S_ .f32 0x2EDBE6FF#32),
    unary main_cst_4 main_v15 (broadcastInDim S32x1000000 ![] bcast_S_S32x1000000 : (⟨S_, .f32⟩ : BufTy).Contents (Elt F) → (⟨S32x1000000, .f32⟩ : BufTy).Contents (Elt F)),
    binary main_v14 main_v15 main_v16 (addf : (⟨S32x1000000, .f32⟩ : BufTy).Contents (Elt F) → (⟨S32x1000000, .f32⟩ : BufTy).Contents (Elt F) → (⟨S32x1000000, .f32⟩ : BufTy).Contents (Elt F)),
    unary main_v16 main_v17 (Host.log : (⟨S32x1000000, .f32⟩ : BufTy).Contents (Elt F) → (⟨S32x1000000, .f32⟩ : BufTy).Contents (Elt F)),
    unary main_v17 main_v18 (Host.negf : (⟨S32x1000000, .f32⟩ : BufTy).Contents (Elt F) → (⟨S32x1000000, .f32⟩ : BufTy).Contents (Elt F)),
    binary main_v2 main_v18 main_v19 (addf : (⟨S32x1000000, .f32⟩ : BufTy).Contents (Elt F) → (⟨S32x1000000, .f32⟩ : BufTy).Contents (Elt F) → (⟨S32x1000000, .f32⟩ : BufTy).Contents (Elt F)),
    nullary main_cst_5 (constant S_ .f32 0x3F800000#32),
    unary main_cst_5 main_v20 (broadcastInDim S32x1000000 ![] bcast_S_S32x1000000 : (⟨S_, .f32⟩ : BufTy).Contents (Elt F) → (⟨S32x1000000, .f32⟩ : BufTy).Contents (Elt F)),
    binary main_v19 main_v20 main_v21 (Host.divf : (⟨S32x1000000, .f32⟩ : BufTy).Contents (Elt F) → (⟨S32x1000000, .f32⟩ : BufTy).Contents (Elt F) → (⟨S32x1000000, .f32⟩ : BufTy).Contents (Elt F)),
    nullary main_cst_6 (constant S_ .f32 0xFF800000#32),
    binary main_v21 main_cst_6 main_v22 ((fun x v => Host.reduce FloatOps.maximumf x v reducesTo_S32x1000000_S32_d1 h_S_) : (⟨S32x1000000, .f32⟩ : BufTy).Contents (Elt F) → (⟨S_, .f32⟩ : BufTy).Contents (Elt F) → (⟨S32, .f32⟩ : BufTy).Contents (Elt F)),
    nullary main_cst_7 (constant S_ .f32 0xFF800000#32),
    unary main_cst_7 main_v23 (broadcastInDim S32 ![] bcast_S_S32 : (⟨S_, .f32⟩ : BufTy).Contents (Elt F) → (⟨S32, .f32⟩ : BufTy).Contents (Elt F)),
    binary main_v23 main_v22 main_v24 (maximumf : (⟨S32, .f32⟩ : BufTy).Contents (Elt F) → (⟨S32, .f32⟩ : BufTy).Contents (Elt F) → (⟨S32, .f32⟩ : BufTy).Contents (Elt F)),
    unary main_v24 main_v25 (broadcastInDim S32x1 ![0] bcast_S32_S32x1_0 : (⟨S32, .f32⟩ : BufTy).Contents (Elt F) → (⟨S32x1, .f32⟩ : BufTy).Contents (Elt F)),
    unary main_v25 main_v26 (broadcastInDim S32x1000000 ![0, 1] bcast_S32x1_S32x1000000_0_1 : (⟨S32x1, .f32⟩ : BufTy).Contents (Elt F) → (⟨S32x1000000, .f32⟩ : BufTy).Contents (Elt F)),
    binary main_v21 main_v26 main_v27 (subf : (⟨S32x1000000, .f32⟩ : BufTy).Contents (Elt F) → (⟨S32x1000000, .f32⟩ : BufTy).Contents (Elt F) → (⟨S32x1000000, .f32⟩ : BufTy).Contents (Elt F)),
    unary main_v27 main_v28 (Host.exp : (⟨S32x1000000, .f32⟩ : BufTy).Contents (Elt F) → (⟨S32x1000000, .f32⟩ : BufTy).Contents (Elt F)) ]

/-- @main's operations 301 … 305 of 305 (@main, which the printer did not cut). -/
abbrev ops_10 : List (HloOp τ sig (Elt F)) :=
  [ nullary main_cst_8 (constant S_ .f32 0x00000000#32),
    binary main_v28 main_cst_8 main_v29 ((fun x v => Host.reduceAdd x v reducesTo_S32x1000000_S32_d1 h_S_) : (⟨S32x1000000, .f32⟩ : BufTy).Contents (Elt F) → (⟨S_, .f32⟩ : BufTy).Contents (Elt F) → (⟨S32, .f32⟩ : BufTy).Contents (Elt F)),
    unary main_v29 main_v30 (broadcastInDim S32x1 ![0] bcast_S32_S32x1_0 : (⟨S32, .f32⟩ : BufTy).Contents (Elt F) → (⟨S32x1, .f32⟩ : BufTy).Contents (Elt F)),
    unary main_v30 main_v31 (broadcastInDim S32x1000000 ![0, 1] bcast_S32x1_S32x1000000_0_1 : (⟨S32x1, .f32⟩ : BufTy).Contents (Elt F) → (⟨S32x1000000, .f32⟩ : BufTy).Contents (Elt F)),
    binary main_v28 main_v31 main_v32 (Host.divf : (⟨S32x1000000, .f32⟩ : BufTy).Contents (Elt F) → (⟨S32x1000000, .f32⟩ : BufTy).Contents (Elt F) → (⟨S32x1000000, .f32⟩ : BufTy).Contents (Elt F)) ]

/-- @main's 305 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
set_option maxHeartbeats 4000000 in
/-- The program is its list of operations, run in order. -/
theorem main_eq (c : Dev nD) : main (F := F) c = seq ops := rfl
/-- The program allocates no buffer of its own. -/
theorem scopedRefs_eq : (Finset.univ.filter fun b : Ref sig .tc => b.isScoped) = ∅ := by decide
/-- The program allocates no semaphore of its own. -/
theorem scopedSems_eq : (Finset.univ.filter fun sm : SemLoc sig => sm.isScoped .tc) = ∅ := by decide
set_option maxRecDepth 8192 in
/-- The operations of part 0 read and write buffers of the device. -/
theorem ops_0_sub : (ops_0 : List (HloOp τ sig (Elt F))).Forall fun op => op.bufs ⊆ tcRefs τ sig :=
  ⟨unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub ..⟩
set_option maxRecDepth 8192 in
/-- The operations of part 0 leave no buffer undetermined. -/
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 1 read and write buffers of the device. -/
theorem ops_1_sub : (ops_1 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
/-- The operations of part 1 leave no buffer undetermined. -/
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 2 read and write buffers of the device. -/
theorem ops_2_sub : (ops_2 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
set_option maxRecDepth 8192 in
/-- The operations of part 2 leave no buffer undetermined. -/
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 3 read and write buffers of the device. -/
theorem ops_3_sub : (ops_3 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
/-- The operations of part 3 leave no buffer undetermined. -/
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 4 read and write buffers of the device. -/
theorem ops_4_sub : (ops_4 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
/-- The operations of part 4 leave no buffer undetermined. -/
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 5 read and write buffers of the device. -/
theorem ops_5_sub : (ops_5 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
/-- The operations of part 5 leave no buffer undetermined. -/
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 6 read and write buffers of the device. -/
theorem ops_6_sub : (ops_6 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
/-- The operations of part 6 leave no buffer undetermined. -/
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 7 read and write buffers of the device. -/
theorem ops_7_sub : (ops_7 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
/-- The operations of part 7 leave no buffer undetermined. -/
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 8 read and write buffers of the device. -/
theorem ops_8_sub : (ops_8 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
set_option maxRecDepth 8192 in
/-- The operations of part 8 leave no buffer undetermined. -/
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 9 read and write buffers of the device. -/
theorem ops_9_sub : (ops_9 : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub ..⟩
set_option maxRecDepth 8192 in
/-- The operations of part 9 leave no buffer undetermined. -/
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of part 10 read and write buffers of the device. -/
theorem ops_10_sub : (ops_10 : List (HloOp τ sig (Elt F))).Forall fun op => op.bufs ⊆ tcRefs τ sig :=
  ⟨nullary_bufs_sub .., binary_bufs_sub .., unary_bufs_sub .., unary_bufs_sub .., binary_bufs_sub ..⟩
set_option maxRecDepth 8192 in
/-- The operations of part 10 leave no buffer undetermined. -/
theorem ops_10_fresh : (ops_10 : List (HloOp τ sig (Elt F))).Forall fun op => op.fresh = ∅ :=
  ⟨rfl, rfl, rfl, rfl, rfl⟩
/-- Every operation of the program reads and writes buffers of the device. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
/-- No operation of the program leaves a buffer undetermined. -/
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.Proof.Ref

end
-- ==== Proof.RefTerms.lean ====
/- The values the reference program's operations write, as terms of the arguments: one name per value used more than once. -/
module

public import proofs.«01_k».proof.Proof.RefOps

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v9`'s composed term of the arguments (named: it is used 2 times). -/
def res_main_v9 (V0 : Valuation τ sig (Elt F)) : (Proc.devRef .tc main_v9 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  broadcastInDim S1x1 ![] bcast_S_S1x1 (id (constant S_ .f32 0x00000000#32))

set_option maxRecDepth 8192 in
/-- `main_call0_v5`'s composed term of the arguments (named: it is used 5 times). -/
def res_main_call0_v5 (V0 : Valuation τ sig (Elt F)) : (Proc.devRef .tc main_call0_v5 : DevRef τ sig).ty.Contents (Elt F) :=
  shapeCast _ (extractStridedSlice S1 ![0] (res_main_v9 V0) slices_S2_S1_0) shapeCasts_S1_S_

set_option maxRecDepth 8192 in
/-- `main_call0_v7`'s composed term of the arguments (named: it is used 5 times). -/
def res_main_call0_v7 (V0 : Valuation τ sig (Elt F)) : (Proc.devRef .tc main_call0_v7 : DevRef τ sig).ty.Contents (Elt F) :=
  shapeCast _ (extractStridedSlice S1 ![1] (res_main_v9 V0) slices_S2_S1_1) shapeCasts_S1_S_

set_option maxRecDepth 8192 in
/-- `main_call0_v14`'s composed term of the arguments (named: it is used 2 times). -/
def res_main_call0_v14 (V0 : Valuation τ sig (Elt F)) : (Proc.devRef .tc main_call0_v14 : DevRef τ sig).ty.Contents (Elt F) :=
  addi (muli (broadcastInDim S32x1000000 ![] bcast_S_S32x1000000 (constantI S_ 64 1000000#64)) (iotaInDim S32x1000000 64 0)) (muli (broadcastInDim S32x1000000 ![] bcast_S_S32x1000000 (constantI S_ 64 1#64)) (iotaInDim S32x1000000 64 1))

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (trunci 32 (res_main_call0_v14 V0) natLt_32_64) (broadcastInDim S32x1000000 ![] bcast_S_S32x1000000 (res_main_call0_v7 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (trunci 32 (Host.shrui (res_main_call0_v14 V0) (broadcastInDim S32x1000000 ![] bcast_S_S32x1000000 (constantI S_ 64 32#64))) natLt_32_64) (broadcastInDim S32x1000000 ![] bcast_S_S32x1000000 (res_main_call0_v5 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S32x1000000 ![] bcast_S_S32x1000000 (constantI S_ 32 13#32))) (Host.shrui (res_main_call0_call0_v5 V0) (broadcastInDim S32x1000000 ![] bcast_S_S32x1000000 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S32x1000000 ![] bcast_S_S32x1000000 (constantI S_ 32 15#32))) (Host.shrui (res_main_call0_call0_v12 V0) (broadcastInDim S32x1000000 ![] bcast_S_S32x1000000 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S32x1000000 ![] bcast_S_S32x1000000 (constantI S_ 32 26#32))) (Host.shrui (res_main_call0_call0_v19 V0) (broadcastInDim S32x1000000 ![] bcast_S_S32x1000000 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S32x1000000 ![] bcast_S_S32x1000000 (constantI S_ 32 6#32))) (Host.shrui (res_main_call0_call0_v26 V0) (broadcastInDim S32x1000000 ![] bcast_S_S32x1000000 (constantI S_ 32 26#32))))) (broadcastInDim S32x1000000 ![] bcast_S_S32x1000000 (res_main_call0_call0_v1 V0))) (broadcastInDim S32x1000000 ![] bcast_S_S32x1000000 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S32x1000000 ![] bcast_S_S32x1000000 (res_main_call0_v7 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S32x1000000 ![] bcast_S_S32x1000000 (constantI S_ 32 17#32))) (Host.shrui (res_main_call0_call0_v39 V0) (broadcastInDim S32x1000000 ![] bcast_S_S32x1000000 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S32x1000000 ![] bcast_S_S32x1000000 (constantI S_ 32 29#32))) (Host.shrui (res_main_call0_call0_v46 V0) (broadcastInDim S32x1000000 ![] bcast_S_S32x1000000 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S32x1000000 ![] bcast_S_S32x1000000 (constantI S_ 32 16#32))) (Host.shrui (res_main_call0_call0_v53 V0) (broadcastInDim S32x1000000 ![] bcast_S_S32x1000000 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S32x1000000 ![] bcast_S_S32x1000000 (constantI S_ 32 24#32))) (Host.shrui (res_main_call0_call0_v60 V0) (broadcastInDim S32x1000000 ![] bcast_S_S32x1000000 (constantI S_ 32 8#32))))) (broadcastInDim S32x1000000 ![] bcast_S_S32x1000000 (res_main_call0_v5 V0))) (broadcastInDim S32x1000000 ![] bcast_S_S32x1000000 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S32x1000000 ![] bcast_S_S32x1000000 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S32x1000000 ![] bcast_S_S32x1000000 (constantI S_ 32 13#32))) (Host.shrui (res_main_call0_call0_v73 V0) (broadcastInDim S32x1000000 ![] bcast_S_S32x1000000 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S32x1000000 ![] bcast_S_S32x1000000 (constantI S_ 32 15#32))) (Host.shrui (res_main_call0_call0_v80 V0) (broadcastInDim S32x1000000 ![] bcast_S_S32x1000000 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S32x1000000 ![] bcast_S_S32x1000000 (constantI S_ 32 26#32))) (Host.shrui (res_main_call0_call0_v87 V0) (broadcastInDim S32x1000000 ![] bcast_S_S32x1000000 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S32x1000000 ![] bcast_S_S32x1000000 (constantI S_ 32 6#32))) (Host.shrui (res_main_call0_call0_v94 V0) (broadcastInDim S32x1000000 ![] bcast_S_S32x1000000 (constantI S_ 32 26#32))))) (broadcastInDim S32x1000000 ![] bcast_S_S32x1000000 (res_main_call0_v7 V0))) (broadcastInDim S32x1000000 ![] bcast_S_S32x1000000 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S32x1000000 ![] bcast_S_S32x1000000 (res_main_call0_v5 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S32x1000000 ![] bcast_S_S32x1000000 (constantI S_ 32 17#32))) (Host.shrui (res_main_call0_call0_v107 V0) (broadcastInDim S32x1000000 ![] bcast_S_S32x1000000 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S32x1000000 ![] bcast_S_S32x1000000 (constantI S_ 32 29#32))) (Host.shrui (res_main_call0_call0_v114 V0) (broadcastInDim S32x1000000 ![] bcast_S_S32x1000000 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S32x1000000 ![] bcast_S_S32x1000000 (constantI S_ 32 16#32))) (Host.shrui (res_main_call0_call0_v121 V0) (broadcastInDim S32x1000000 ![] bcast_S_S32x1000000 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S32x1000000 ![] bcast_S_S32x1000000 (constantI S_ 32 24#32))) (Host.shrui (res_main_call0_call0_v128 V0) (broadcastInDim S32x1000000 ![] bcast_S_S32x1000000 (constantI S_ 32 8#32))))) (broadcastInDim S32x1000000 ![] bcast_S_S32x1000000 (res_main_call0_call0_v1 V0))) (broadcastInDim S32x1000000 ![] bcast_S_S32x1000000 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S32x1000000 ![] bcast_S_S32x1000000 (res_main_call0_v7 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S32x1000000 ![] bcast_S_S32x1000000 (constantI S_ 32 13#32))) (Host.shrui (res_main_call0_call0_v141 V0) (broadcastInDim S32x1000000 ![] bcast_S_S32x1000000 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S32x1000000 ![] bcast_S_S32x1000000 (constantI S_ 32 15#32))) (Host.shrui (res_main_call0_call0_v148 V0) (broadcastInDim S32x1000000 ![] bcast_S_S32x1000000 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S32x1000000 ![] bcast_S_S32x1000000 (constantI S_ 32 26#32))) (Host.shrui (res_main_call0_call0_v155 V0) (broadcastInDim S32x1000000 ![] bcast_S_S32x1000000 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v21`'s composed term of the arguments (named: it is used 2 times). -/
def res_main_v21 (V0 : Valuation τ sig (Elt F)) : (Proc.devRef .tc main_v21 : DevRef τ sig).ty.Contents (Elt F) :=
  Host.divf (addf (mulf (V0 (Proc.devRef .tc main_arg0)) (broadcastInDim S32x1000000 ![] bcast_S_S32x1000000 (Host.exp (V0 (Proc.devRef .tc main_arg1))))) (Host.negf (Host.log (addf (Host.negf (Host.log (addf (maximumf (broadcastInDim S32x1000000 ![0, 1] bcast_S1x1_S32x1000000_0_1 (res_main_call0_v2 V0)) (addf (mulf (subf (bitcastToFloat (F := F) .f32 (ori (Host.shrui (xori (addi (res_main_call0_call0_v163 V0) (broadcastInDim S32x1000000 ![] bcast_S_S32x1000000 (res_main_call0_call0_v1 V0))) (addi (addi (xori (res_main_call0_call0_v163 V0) (ori (Host.shli (res_main_call0_call0_v162 V0) (broadcastInDim S32x1000000 ![] bcast_S_S32x1000000 (constantI S_ 32 6#32))) (Host.shrui (res_main_call0_call0_v162 V0) (broadcastInDim S32x1000000 ![] bcast_S_S32x1000000 (constantI S_ 32 26#32))))) (broadcastInDim S32x1000000 ![] bcast_S_S32x1000000 (res_main_call0_v5 V0))) (broadcastInDim S32x1000000 ![] bcast_S_S32x1000000 (constantI S_ 32 5#32)))) (broadcastInDim S32x1000000 ![] bcast_S_S32x1000000 (constantI S_ 32 9#32))) (broadcastInDim S32x1000000 ![] bcast_S_S32x1000000 (constantI S_ 32 1065353216#32)))) (broadcastInDim S32x1000000 ![] bcast_S_S32x1000000 (constant S_ .f32 0x3F800000#32))) (broadcastInDim S32x1000000 ![0, 1] bcast_S1x1_S32x1000000_0_1 (subf (broadcastInDim S1x1 ![] bcast_S_S1x1 (id (constant S_ .f32 0x3F800000#32))) (res_main_call0_v2 V0)))) (broadcastInDim S32x1000000 ![0, 1] bcast_S1x1_S32x1000000_0_1 (res_main_call0_v2 V0)))) (broadcastInDim S32x1000000 ![] bcast_S_S32x1000000 (constant S_ .f32 0x2EDBE6FF#32))))) (broadcastInDim S32x1000000 ![] bcast_S_S32x1000000 (constant S_ .f32 0x2EDBE6FF#32)))))) (broadcastInDim S32x1000000 ![] bcast_S_S32x1000000 (constant S_ .f32 0x3F800000#32))

set_option maxRecDepth 8192 in
/-- `main_v28`'s composed term of the arguments (named: it is used 2 times). -/
def res_main_v28 (V0 : Valuation τ sig (Elt F)) : (Proc.devRef .tc main_v28 : DevRef τ sig).ty.Contents (Elt F) :=
  Host.exp (subf (res_main_v21 V0) (broadcastInDim S32x1000000 ![0, 1] bcast_S32x1_S32x1000000_0_1 (broadcastInDim S32x1 ![0] bcast_S32_S32x1_0 (maximumf (broadcastInDim S32 ![] bcast_S_S32 (constant S_ .f32 0xFF800000#32)) (Host.reduce FloatOps.maximumf (res_main_v21 V0) (constant S_ .f32 0xFF800000#32) reducesTo_S32x1000000_S32_d1 h_S_)))))

end Cert.Proof.Ref

end
-- ==== Proof.RefRun.lean ====
/- The reference program's run read back, thirty operations at a time: it ends with its result at the composed term of the
   arguments, the arguments unchanged and every counter at zero. -/
module

public import proofs.«01_k».proof.Proof.RefTerms

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first operation. -/
def val0 (V0 : Valuation τ sig (Elt F)) : Valuation τ sig (Elt F) := V0
/-- At its start the buffer main_arg0 holds its term. -/
theorem val0_main_arg0 (V0 : Valuation τ sig (Elt F)) : val0 V0 (no_index (Proc.devRef .tc main_arg0)) = V0 (Proc.devRef .tc main_arg0) := rfl
/-- At its start the buffer main_arg1 holds its term. -/
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_v0, main_v1, main_v2, main_c, main_c_0, main_v3, main_v4, main_v5, main_c_1, main_v6, main_v7, main_v8, main_v9, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12]
set_option maxRecDepth 8192 in
/-- The operations of part 0 write within the list of its buffers. -/
theorem ops_0_writes : (ops_0 : List (HloOp τ sig (Elt F))).Forall fun op => op.writes ⊆ (ops_0_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
/-- After 1 parts of the program the buffer main_arg0 holds its term. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- After 1 parts of the program the buffer main_arg1 holds its term. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
/-- After 1 parts of the program the buffer main_v2 holds its term. -/
theorem val0_1_main_v2 (V0 : Valuation τ sig (Elt F)) : val0_1 V0 (no_index (Proc.devRef .tc main_v2)) = mulf (V0 (Proc.devRef .tc main_arg0)) (broadcastInDim S32x1000000 ![] bcast_S_S32x1000000 (Host.exp (V0 (Proc.devRef .tc main_arg1)))) := by
  unfold val0_1
  simp only [ops_0, TRef.binary, TRef.nullary, TRef.reshape, TRef.unary, TRef.toBuf, TRef.ofBuf, cast_eq]
  after_results_simp
  simp only [val0_main_arg1, val0_main_arg0] <;> rfl
set_option maxRecDepth 8192 in
set_option maxHeartbeats 2000000 in
/-- After 1 parts of the program the buffer main_call0_v2 holds its term. -/
theorem val0_1_main_call0_v2 (V0 : Valuation τ sig (Elt F)) : val0_1 V0 (no_index (Proc.devRef .tc main_call0_v2)) = res_main_call0_v2 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v3 holds its term. -/
theorem val0_1_main_call0_v3 (V0 : Valuation τ sig (Elt F)) : val0_1 V0 (no_index (Proc.devRef .tc main_call0_v3)) = broadcastInDim S1x1 ![] bcast_S_S1x1 (id (constant S_ .f32 0x3F800000#32)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v5 holds its term. -/
theorem val0_1_main_call0_v5 (V0 : Valuation τ sig (Elt F)) : val0_1 V0 (no_index (Proc.devRef .tc main_call0_v5)) = res_main_call0_v5 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v7 holds its term. -/
theorem val0_1_main_call0_v7 (V0 : Valuation τ sig (Elt F)) : val0_1 V0 (no_index (Proc.devRef .tc main_call0_v7)) = res_main_call0_v7 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v9 holds its term. -/
theorem val0_1_main_call0_v9 (V0 : Valuation τ sig (Elt F)) : val0_1 V0 (no_index (Proc.devRef .tc main_call0_v9)) = iotaInDim S32x1000000 64 1 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v11 holds its term. -/
theorem val0_1_main_call0_v11 (V0 : Valuation τ sig (Elt F)) : val0_1 V0 (no_index (Proc.devRef .tc main_call0_v11)) = muli (broadcastInDim S32x1000000 ![] bcast_S_S32x1000000 (constantI S_ 64 1000000#64)) (iotaInDim S32x1000000 64 0) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- After 1 parts of the program the buffer main_call0_v12 holds its term. -/
theorem val0_1_main_call0_v12 (V0 : Valuation τ sig (Elt F)) : val0_1 V0 (no_index (Proc.devRef .tc main_call0_v12)) = broadcastInDim S32x1000000 ![] bcast_S_S32x1000000 (constantI S_ 64 1#64) := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_v13, main_call0_v14, main_call0_c_1, main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17]
set_option maxRecDepth 8192 in
/-- The operations of part 1 write within the list of its buffers. -/
theorem ops_1_writes : (ops_1 : List (HloOp τ sig (Elt F))).Forall fun op => op.writes ⊆ (ops_1_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
/-- After 2 parts of the program the buffer main_arg0 holds its term. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- After 2 parts of the program the buffer main_arg1 holds its term. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- After 2 parts of the program the buffer main_v2 holds its term. -/
theorem val0_2_main_v2 (V0 : Valuation τ sig (Elt F)) : val0_2 V0 (no_index (Proc.devRef .tc main_v2)) = mulf (V0 (Proc.devRef .tc main_arg0)) (broadcastInDim S32x1000000 ![] bcast_S_S32x1000000 (Host.exp (V0 (Proc.devRef .tc main_arg1)))) :=
  (val0_2_keep V0 main_v2 (by decide)).trans (val0_1_main_v2 V0)
/-- After 2 parts of the program the buffer main_call0_v2 holds its term. -/
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
/-- After 2 parts of the program the buffer main_call0_v3 holds its term. -/
theorem val0_2_main_call0_v3 (V0 : Valuation τ sig (Elt F)) : val0_2 V0 (no_index (Proc.devRef .tc main_call0_v3)) = broadcastInDim S1x1 ![] bcast_S_S1x1 (id (constant S_ .f32 0x3F800000#32)) :=
  (val0_2_keep V0 main_call0_v3 (by decide)).trans (val0_1_main_call0_v3 V0)
/-- After 2 parts of the program the buffer main_call0_v5 holds its term. -/
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
/-- After 2 parts of the program the buffer main_call0_v7 holds its term. -/
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
set_option maxRecDepth 8192 in
set_option maxHeartbeats 2000000 in
/-- After 2 parts of the program the buffer main_call0_call0_v1 holds its term. -/
theorem val0_2_main_call0_call0_v1 (V0 : Valuation τ sig (Elt F)) : val0_2 V0 (no_index (Proc.devRef .tc main_call0_call0_v1)) = res_main_call0_call0_v1 V0 := by
  unfold val0_2
  simp only [ops_1, TRef.binary, TRef.nullary, TRef.unary, TRef.toBuf, TRef.ofBuf, cast_eq]
  after_results_simp
  simp only [val0_1_main_call0_v7, val0_1_main_call0_v5] <;> rfl
set_option maxRecDepth 8192 in
set_option maxHeartbeats 2000000 in
/-- After 2 parts of the program the buffer main_call0_call0_v13 holds its term. -/
theorem val0_2_main_call0_call0_v13 (V0 : Valuation τ sig (Elt F)) : val0_2 V0 (no_index (Proc.devRef .tc main_call0_call0_v13)) = res_main_call0_call0_v13 V0 := by
  unfold val0_2
  simp only [ops_1, TRef.binary, TRef.nullary, TRef.unary, TRef.toBuf, TRef.ofBuf, cast_eq]
  after_results_simp
  simp only [val0_1_main_call0_v7, val0_1_main_call0_v9, val0_1_main_call0_v12, val0_1_main_call0_v11, val0_1_main_call0_v5] <;> rfl
set_option maxRecDepth 8192 in
set_option maxHeartbeats 2000000 in
/-- After 2 parts of the program the buffer main_call0_call0_v15 holds its term. -/
theorem val0_2_main_call0_call0_v15 (V0 : Valuation τ sig (Elt F)) : val0_2 V0 (no_index (Proc.devRef .tc main_call0_call0_v15)) = Host.shli (res_main_call0_call0_v12 V0) (broadcastInDim S32x1000000 ![] bcast_S_S32x1000000 (constantI S_ 32 15#32)) := by
  unfold val0_2
  simp only [ops_1, TRef.binary, TRef.nullary, TRef.unary, TRef.toBuf, TRef.ofBuf, cast_eq]
  after_results_simp
  simp only [val0_1_main_call0_v7, val0_1_main_call0_v9, val0_1_main_call0_v12, val0_1_main_call0_v11, val0_1_main_call0_v5] <;> rfl
set_option maxRecDepth 8192 in
set_option maxHeartbeats 2000000 in
/-- After 2 parts of the program the buffer main_call0_call0_v17 holds its term. -/
theorem val0_2_main_call0_call0_v17 (V0 : Valuation τ sig (Elt F)) : val0_2 V0 (no_index (Proc.devRef .tc main_call0_call0_v17)) = Host.shrui (res_main_call0_call0_v12 V0) (broadcastInDim S32x1000000 ![] bcast_S_S32x1000000 (constantI S_ 32 17#32)) := by
  unfold val0_2
  simp only [ops_1, TRef.binary, TRef.nullary, TRef.unary, TRef.toBuf, TRef.ofBuf, cast_eq]
  after_results_simp
  simp only [val0_1_main_call0_v7, val0_1_main_call0_v9, val0_1_main_call0_v12, val0_1_main_call0_v11, val0_1_main_call0_v5] <;> rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41]
set_option maxRecDepth 8192 in
/-- The operations of part 2 write within the list of its buffers. -/
theorem ops_2_writes : (ops_2 : List (HloOp τ sig (Elt F))).Forall fun op => op.writes ⊆ (ops_2_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
/-- After 3 parts of the program the buffer main_arg0 holds its term. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- After 3 parts of the program the buffer main_arg1 holds its term. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- After 3 parts of the program the buffer main_v2 holds its term. -/
theorem val0_3_main_v2 (V0 : Valuation τ sig (Elt F)) : val0_3 V0 (no_index (Proc.devRef .tc main_v2)) = mulf (V0 (Proc.devRef .tc main_arg0)) (broadcastInDim S32x1000000 ![] bcast_S_S32x1000000 (Host.exp (V0 (Proc.devRef .tc main_arg1)))) :=
  (val0_3_keep V0 main_v2 (by decide)).trans (val0_2_main_v2 V0)
/-- After 3 parts of the program the buffer main_call0_v2 holds its term. -/
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
/-- After 3 parts of the program the buffer main_call0_v3 holds its term. -/
theorem val0_3_main_call0_v3 (V0 : Valuation τ sig (Elt F)) : val0_3 V0 (no_index (Proc.devRef .tc main_call0_v3)) = broadcastInDim S1x1 ![] bcast_S_S1x1 (id (constant S_ .f32 0x3F800000#32)) :=
  (val0_3_keep V0 main_call0_v3 (by decide)).trans (val0_2_main_call0_v3 V0)
/-- After 3 parts of the program the buffer main_call0_v5 holds its term. -/
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
/-- After 3 parts of the program the buffer main_call0_v7 holds its term. -/
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
/-- After 3 parts of the program the buffer main_call0_call0_v1 holds its term. -/
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
/-- After 3 parts of the program the buffer main_call0_call0_v39 holds its term. -/
theorem val0_3_main_call0_call0_v39 (V0 : Valuation τ sig (Elt F)) : val0_3 V0 (no_index (Proc.devRef .tc main_call0_call0_v39)) = res_main_call0_call0_v39 V0 := by
  unfold val0_3
  simp only [ops_2, TRef.binary, TRef.nullary, TRef.unary, TRef.toBuf, TRef.ofBuf, cast_eq]
  after_results_simp
  simp only [val0_2_main_call0_call0_v1, val0_2_main_call0_call0_v17, val0_2_main_call0_call0_v15, val0_2_main_call0_call0_v13] <;> rfl
set_option maxRecDepth 8192 in
set_option maxHeartbeats 2000000 in
/-- After 3 parts of the program the buffer main_call0_call0_v40 holds its term. -/
theorem val0_3_main_call0_call0_v40 (V0 : Valuation τ sig (Elt F)) : val0_3 V0 (no_index (Proc.devRef .tc main_call0_call0_v40)) = res_main_call0_call0_v40 V0 := by
  unfold val0_3
  simp only [ops_2, TRef.binary, TRef.nullary, TRef.unary, TRef.toBuf, TRef.ofBuf, cast_eq]
  after_results_simp
  simp only [val0_2_main_call0_call0_v1, val0_2_main_call0_call0_v17, val0_2_main_call0_call0_v15, val0_2_main_call0_call0_v13, val0_2_main_call0_v7] <;> rfl
set_option maxRecDepth 8192 in
set_option maxHeartbeats 2000000 in
/-- After 3 parts of the program the buffer main_call0_call0_v41 holds its term. -/
theorem val0_3_main_call0_call0_v41 (V0 : Valuation τ sig (Elt F)) : val0_3 V0 (no_index (Proc.devRef .tc main_call0_call0_v41)) = broadcastInDim S32x1000000 ![] bcast_S_S32x1000000 (constantI S_ 32 17#32) := by
  unfold val0_3
  simp only [ops_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64]
set_option maxRecDepth 8192 in
/-- The operations of part 3 write within the list of its buffers. -/
theorem ops_3_writes : (ops_3 : List (HloOp τ sig (Elt F))).Forall fun op => op.writes ⊆ (ops_3_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
/-- After 4 parts of the program the buffer main_arg0 holds its term. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- After 4 parts of the program the buffer main_arg1 holds its term. -/
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
/-- After 4 parts of the program the buffer main_v2 holds its term. -/
theorem val0_4_main_v2 (V0 : Valuation τ sig (Elt F)) : val0_4 V0 (no_index (Proc.devRef .tc main_v2)) = mulf (V0 (Proc.devRef .tc main_arg0)) (broadcastInDim S32x1000000 ![] bcast_S_S32x1000000 (Host.exp (V0 (Proc.devRef .tc main_arg1)))) :=
  (val0_4_keep V0 main_v2 (by decide)).trans (val0_3_main_v2 V0)
/-- After 4 parts of the program the buffer main_call0_v2 holds its term. -/
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
/-- After 4 parts of the program the buffer main_call0_v3 holds its term. -/
theorem val0_4_main_call0_v3 (V0 : Valuation τ sig (Elt F)) : val0_4 V0 (no_index (Proc.devRef .tc main_call0_v3)) = broadcastInDim S1x1 ![] bcast_S_S1x1 (id (constant S_ .f32 0x3F800000#32)) :=
  (val0_4_keep V0 main_call0_v3 (by decide)).trans (val0_3_main_call0_v3 V0)
/-- After 4 parts of the program the buffer main_call0_v5 holds its term. -/
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
/-- After 4 parts of the program the buffer main_call0_v7 holds its term. -/
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
/-- After 4 parts of the program the buffer main_call0_call0_v1 holds its term. -/
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
/-- After 4 parts of the program the buffer main_call0_call0_v60 holds its term. -/
theorem val0_4_main_call0_call0_v60 (V0 : Valuation τ sig (Elt F)) : val0_4 V0 (no_index (Proc.devRef .tc main_call0_call0_v60)) = res_main_call0_call0_v60 V0 := by
  unfold val0_4
  simp only [ops_3, TRef.binary, TRef.nullary, TRef.unary, TRef.toBuf, TRef.ofBuf, cast_eq]
  after_results_simp
  simp only [val0_3_main_call0_call0_v39, val0_3_main_call0_call0_v41, val0_3_main_call0_call0_v40] <;> rfl
set_option maxRecDepth 8192 in
set_option maxHeartbeats 2000000 in
/-- After 4 parts of the program the buffer main_call0_call0_v61 holds its term. -/
theorem val0_4_main_call0_call0_v61 (V0 : Valuation τ sig (Elt F)) : val0_4 V0 (no_index (Proc.devRef .tc main_call0_call0_v61)) = res_main_call0_call0_v61 V0 := by
  unfold val0_4
  simp only [ops_3, TRef.binary, TRef.nullary, TRef.unary, TRef.toBuf, TRef.ofBuf, cast_eq]
  after_results_simp
  simp only [val0_3_main_call0_call0_v39, val0_3_main_call0_call0_v41, val0_3_main_call0_call0_v40] <;> rfl
set_option maxRecDepth 8192 in
set_option maxHeartbeats 2000000 in
/-- After 4 parts of the program the buffer main_call0_call0_v63 holds its term. -/
theorem val0_4_main_call0_call0_v63 (V0 : Valuation τ sig (Elt F)) : val0_4 V0 (no_index (Proc.devRef .tc main_call0_call0_v63)) = Host.shli (res_main_call0_call0_v60 V0) (broadcastInDim S32x1000000 ![] bcast_S_S32x1000000 (constantI S_ 32 24#32)) := by
  unfold val0_4
  simp only [ops_3, TRef.binary, TRef.nullary, TRef.unary, TRef.toBuf, TRef.ofBuf, cast_eq]
  after_results_simp
  simp only [val0_3_main_call0_call0_v39, val0_3_main_call0_call0_v41, val0_3_main_call0_call0_v40] <;> rfl
set_option maxRecDepth 8192 in
set_option maxHeartbeats 2000000 in
/-- After 4 parts of the program the buffer main_call0_call0_v64 holds its term. -/
theorem val0_4_main_call0_call0_v64 (V0 : Valuation τ sig (Elt F)) : val0_4 V0 (no_index (Proc.devRef .tc main_call0_call0_v64)) = broadcastInDim S32x1000000 ![] bcast_S_S32x1000000 (constantI S_ 32 8#32) := by
  unfold val0_4
  simp only [ops_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22]
set_option maxRecDepth 8192 in
/-- The operations of part 4 write within the list of its buffers. -/
theorem ops_4_writes : (ops_4 : List (HloOp τ sig (Elt F))).Forall fun op => op.writes ⊆ (ops_4_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
/-- After 5 parts of the program the buffer main_arg0 holds its term. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- After 5 parts of the program the buffer main_arg1 holds its term. -/
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
/-- After 5 parts of the program the buffer main_v2 holds its term. -/
theorem val0_5_main_v2 (V0 : Valuation τ sig (Elt F)) : val0_5 V0 (no_index (Proc.devRef .tc main_v2)) = mulf (V0 (Proc.devRef .tc main_arg0)) (broadcastInDim S32x1000000 ![] bcast_S_S32x1000000 (Host.exp (V0 (Proc.devRef .tc main_arg1)))) :=
  (val0_5_keep V0 main_v2 (by decide)).trans (val0_4_main_v2 V0)
/-- After 5 parts of the program the buffer main_call0_v2 holds its term. -/
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
/-- After 5 parts of the program the buffer main_call0_v3 holds its term. -/
theorem val0_5_main_call0_v3 (V0 : Valuation τ sig (Elt F)) : val0_5 V0 (no_index (Proc.devRef .tc main_call0_v3)) = broadcastInDim S1x1 ![] bcast_S_S1x1 (id (constant S_ .f32 0x3F800000#32)) :=
  (val0_5_keep V0 main_call0_v3 (by decide)).trans (val0_4_main_call0_v3 V0)
/-- After 5 parts of the program the buffer main_call0_v5 holds its term. -/
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
/-- After 5 parts of the program the buffer main_call0_v7 holds its term. -/
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
/-- After 5 parts of the program the buffer main_call0_call0_v1 holds its term. -/
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
/-- After 5 parts of the program the buffer main_call0_call0_v87 holds its term. -/
theorem val0_5_main_call0_call0_v87 (V0 : Valuation τ sig (Elt F)) : val0_5 V0 (no_index (Proc.devRef .tc main_call0_call0_v87)) = res_main_call0_call0_v87 V0 := by
  unfold val0_5
  simp only [ops_4, TRef.binary, TRef.nullary, TRef.unary, TRef.toBuf, TRef.ofBuf, cast_eq]
  after_results_simp
  simp only [val0_4_main_call0_v5, val0_4_main_call0_call0_v64, val0_4_main_call0_call0_v60, val0_4_main_call0_call0_v63, val0_4_main_call0_call0_v61, val0_4_main_call0_call0_v1] <;> rfl
set_option maxRecDepth 8192 in
set_option maxHeartbeats 2000000 in
/-- After 5 parts of the program the buffer main_call0_call0_v88 holds its term. -/
theorem val0_5_main_call0_call0_v88 (V0 : Valuation τ sig (Elt F)) : val0_5 V0 (no_index (Proc.devRef .tc main_call0_call0_v88)) = res_main_call0_call0_v88 V0 := by
  unfold val0_5
  simp only [ops_4, TRef.binary, TRef.nullary, TRef.unary, TRef.toBuf, TRef.ofBuf, cast_eq]
  after_results_simp
  simp only [val0_4_main_call0_v5, val0_4_main_call0_call0_v64, val0_4_main_call0_call0_v60, val0_4_main_call0_call0_v63, val0_4_main_call0_call0_v61, val0_4_main_call0_call0_v1] <;> rfl
set_option maxRecDepth 8192 in
set_option maxHeartbeats 2000000 in
/-- After 5 parts of the program the buffer main_call0_call0_c_22 holds its term. -/
theorem val0_5_main_call0_call0_c_22 (V0 : Valuation τ sig (Elt F)) : val0_5 V0 (no_index (Proc.devRef .tc main_call0_call0_c_22)) = constantI S_ 32 26#32 := by
  unfold val0_5
  simp only [ops_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112]
set_option maxRecDepth 8192 in
/-- The operations of part 5 write within the list of its buffers. -/
theorem ops_5_writes : (ops_5 : List (HloOp τ sig (Elt F))).Forall fun op => op.writes ⊆ (ops_5_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
/-- After 6 parts of the program the buffer main_arg0 holds its term. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- After 6 parts of the program the buffer main_arg1 holds its term. -/
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
/-- After 6 parts of the program the buffer main_v2 holds its term. -/
theorem val0_6_main_v2 (V0 : Valuation τ sig (Elt F)) : val0_6 V0 (no_index (Proc.devRef .tc main_v2)) = mulf (V0 (Proc.devRef .tc main_arg0)) (broadcastInDim S32x1000000 ![] bcast_S_S32x1000000 (Host.exp (V0 (Proc.devRef .tc main_arg1)))) :=
  (val0_6_keep V0 main_v2 (by decide)).trans (val0_5_main_v2 V0)
/-- After 6 parts of the program the buffer main_call0_v2 holds its term. -/
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
/-- After 6 parts of the program the buffer main_call0_v3 holds its term. -/
theorem val0_6_main_call0_v3 (V0 : Valuation τ sig (Elt F)) : val0_6 V0 (no_index (Proc.devRef .tc main_call0_v3)) = broadcastInDim S1x1 ![] bcast_S_S1x1 (id (constant S_ .f32 0x3F800000#32)) :=
  (val0_6_keep V0 main_call0_v3 (by decide)).trans (val0_5_main_call0_v3 V0)
/-- After 6 parts of the program the buffer main_call0_v5 holds its term. -/
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
/-- After 6 parts of the program the buffer main_call0_v7 holds its term. -/
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
/-- After 6 parts of the program the buffer main_call0_call0_v1 holds its term. -/
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
/-- After 6 parts of the program the buffer main_call0_call0_v108 holds its term. -/
theorem val0_6_main_call0_call0_v108 (V0 : Valuation τ sig (Elt F)) : val0_6 V0 (no_index (Proc.devRef .tc main_call0_call0_v108)) = res_main_call0_call0_v108 V0 := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_c_22, val0_5_main_call0_call0_v88, val0_5_main_call0_v5] <;> rfl
set_option maxRecDepth 8192 in
set_option maxHeartbeats 2000000 in
/-- After 6 parts of the program the buffer main_call0_call0_v110 holds its term. -/
theorem val0_6_main_call0_call0_v110 (V0 : Valuation τ sig (Elt F)) : val0_6 V0 (no_index (Proc.devRef .tc main_call0_call0_v110)) = Host.shli (res_main_call0_call0_v107 V0) (broadcastInDim S32x1000000 ![] bcast_S_S32x1000000 (constantI S_ 32 17#32)) := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_c_22, val0_5_main_call0_call0_v88] <;> rfl
set_option maxRecDepth 8192 in
set_option maxHeartbeats 2000000 in
/-- After 6 parts of the program the buffer main_call0_call0_v112 holds its term. -/
theorem val0_6_main_call0_call0_v112 (V0 : Valuation τ sig (Elt F)) : val0_6 V0 (no_index (Proc.devRef .tc main_call0_call0_v112)) = Host.shrui (res_main_call0_call0_v107 V0) (broadcastInDim S32x1000000 ![] bcast_S_S32x1000000 (constantI S_ 32 15#32)) := by
  unfold val0_6
  simp only [ops_5, TRef.binary, TRef.nullary, TRef.unary, TRef.toBuf, TRef.ofBuf, cast_eq]
  after_results_simp
  simp only [val0_5_main_call0_v7, val0_5_main_call0_call0_v87, val0_5_main_call0_call0_c_22, val0_5_main_call0_call0_v88] <;> rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136]
set_option maxRecDepth 8192 in
/-- The operations of part 6 write within the list of its buffers. -/
theorem ops_6_writes : (ops_6 : List (HloOp τ sig (Elt F))).Forall fun op => op.writes ⊆ (ops_6_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
/-- After 7 parts of the program the buffer main_arg0 holds its term. -/
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
/-- After 7 parts of the program the buffer main_arg1 holds its term. -/
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
/-- After 7 parts of the program the buffer main_v2 holds its term. -/
theorem val0_7_main_v2 (V0 : Valuation τ sig (Elt F)) : val0_7 V0 (no_index (Proc.devRef .tc main_v2)) = mulf (V0 (Proc.devRef .tc main_arg0)) (broadcastInDim S32x1000000 ![] bcast_S_S32x1000000 (Host.exp (V0 (Proc.devRef .tc main_arg1)))) :=
  (val0_7_keep V0 main_v2 (by decide)).trans (val0_6_main_v2 V0)
/-- After 7 parts of the program the buffer main_call0_v2 holds its term. -/
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
/-- After 7 parts of the program the buffer main_call0_v3 holds its term. -/
theorem val0_7_main_call0_v3 (V0 : Valuation τ sig (Elt F)) : val0_7 V0 (no_index (Proc.devRef .tc main_call0_v3)) = broadcastInDim S1x1 ![] bcast_S_S1x1 (id (constant S_ .f32 0x3F800000#32)) :=
  (val0_7_keep V0 main_call0_v3 (by decide)).trans (val0_6_main_call0_v3 V0)
/-- After 7 parts of the program the buffer main_call0_v5 holds its term. -/
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
/-- After 7 parts of the program the buffer main_call0_call0_v1 holds its term. -/
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
/-- After 7 parts of the program the buffer main_call0_call0_v129 holds its term. -/
theorem val0_7_main_call0_call0_v129 (V0 : Valuation τ sig (Elt F)) : val0_7 V0 (no_index (Proc.devRef .tc main_call0_call0_v129)) = res_main_call0_call0_v129 V0 := by
  unfold val0_7
  simp only [ops_6, TRef.binary, TRef.nullary, TRef.unary, TRef.toBuf, TRef.ofBuf, cast_eq]
  after_results_simp
  simp only [val0_6_main_call0_call0_v112, val0_6_main_call0_call0_v110, val0_6_main_call0_call0_v108] <;> rfl
set_option maxRecDepth 8192 in
set_option maxHeartbeats 2000000 in
/-- After 7 parts of the program the buffer main_call0_call0_v135 holds its term. -/
theorem val0_7_main_call0_call0_v135 (V0 : Valuation τ sig (Elt F)) : val0_7 V0 (no_index (Proc.devRef .tc main_call0_call0_v135)) = xori (res_main_call0_call0_v129 V0) (ori (Host.shli (res_main_call0_call0_v128 V0) (broadcastInDim S32x1000000 ![] bcast_S_S32x1000000 (constantI S_ 32 24#32))) (Host.shrui (res_main_call0_call0_v128 V0) (broadcastInDim S32x1000000 ![] bcast_S_S32x1000000 (constantI S_ 32 8#32)))) := by
  unfold val0_7
  simp only [ops_6, TRef.binary, TRef.nullary, TRef.unary, TRef.toBuf, TRef.ofBuf, cast_eq]
  after_results_simp
  simp only [val0_6_main_call0_call0_v112, val0_6_main_call0_call0_v110, val0_6_main_call0_call0_v108] <;> rfl
set_option maxRecDepth 8192 in
set_option maxHeartbeats 2000000 in
/-- After 7 parts of the program the buffer main_call0_call0_v136 holds its term. -/
theorem val0_7_main_call0_call0_v136 (V0 : Valuation τ sig (Elt F)) : val0_7 V0 (no_index (Proc.devRef .tc main_call0_call0_v136)) = broadcastInDim S32x1000000 ![] bcast_S_S32x1000000 (res_main_call0_v7 V0) := by
  unfold val0_7
  simp only [ops_6, TRef.binary, TRef.nullary, TRef.unary, TRef.toBuf, TRef.ofBuf, cast_eq]
  after_results_simp
  simp only [val0_6_main_call0_v7] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159]
set_option maxRecDepth 8192 in
/-- The operations of part 7 write within the list of its buffers. -/
theorem ops_7_writes : (ops_7 : List (HloOp τ sig (Elt F))).Forall fun op => op.writes ⊆ (ops_7_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
/-- After 8 parts of the program the buffer main_arg0 holds its term. -/
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
/-- After 8 parts of the program the buffer main_arg1 holds its term. -/
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
/-- After 8 parts of the program the buffer main_v2 holds its term. -/
theorem val0_8_main_v2 (V0 : Valuation τ sig (Elt F)) : val0_8 V0 (no_index (Proc.devRef .tc main_v2)) = mulf (V0 (Proc.devRef .tc main_arg0)) (broadcastInDim S32x1000000 ![] bcast_S_S32x1000000 (Host.exp (V0 (Proc.devRef .tc main_arg1)))) :=
  (val0_8_keep V0 main_v2 (by decide)).trans (val0_7_main_v2 V0)
/-- After 8 parts of the program the buffer main_call0_v2 holds its term. -/
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
/-- After 8 parts of the program the buffer main_call0_v3 holds its term. -/
theorem val0_8_main_call0_v3 (V0 : Valuation τ sig (Elt F)) : val0_8 V0 (no_index (Proc.devRef .tc main_call0_v3)) = broadcastInDim S1x1 ![] bcast_S_S1x1 (id (constant S_ .f32 0x3F800000#32)) :=
  (val0_8_keep V0 main_call0_v3 (by decide)).trans (val0_7_main_call0_v3 V0)
/-- After 8 parts of the program the buffer main_call0_v5 holds its term. -/
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
/-- After 8 parts of the program the buffer main_call0_call0_v1 holds its term. -/
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
/-- After 8 parts of the program the buffer main_call0_call0_v155 holds its term. -/
theorem val0_8_main_call0_call0_v155 (V0 : Valuation τ sig (Elt F)) : val0_8 V0 (no_index (Proc.devRef .tc main_call0_call0_v155)) = res_main_call0_call0_v155 V0 := by
  unfold val0_8
  simp only [ops_7, TRef.binary, TRef.nullary, TRef.unary, TRef.toBuf, TRef.ofBuf, cast_eq]
  after_results_simp
  simp only [val0_7_main_call0_call0_v1, val0_7_main_call0_call0_v135, val0_7_main_call0_call0_v136, val0_7_main_call0_call0_v129] <;> rfl
set_option maxRecDepth 8192 in
set_option maxHeartbeats 2000000 in
/-- After 8 parts of the program the buffer main_call0_call0_v156 holds its term. -/
theorem val0_8_main_call0_call0_v156 (V0 : Valuation τ sig (Elt F)) : val0_8 V0 (no_index (Proc.devRef .tc main_call0_call0_v156)) = res_main_call0_call0_v156 V0 := by
  unfold val0_8
  simp only [ops_7, TRef.binary, TRef.nullary, TRef.unary, TRef.toBuf, TRef.ofBuf, cast_eq]
  after_results_simp
  simp only [val0_7_main_call0_call0_v1, val0_7_main_call0_call0_v135, val0_7_main_call0_call0_v136, val0_7_main_call0_call0_v129] <;> rfl
set_option maxRecDepth 8192 in
set_option maxHeartbeats 2000000 in
/-- After 8 parts of the program the buffer main_call0_call0_v158 holds its term. -/
theorem val0_8_main_call0_call0_v158 (V0 : Valuation τ sig (Elt F)) : val0_8 V0 (no_index (Proc.devRef .tc main_call0_call0_v158)) = Host.shli (res_main_call0_call0_v155 V0) (broadcastInDim S32x1000000 ![] bcast_S_S32x1000000 (constantI S_ 32 26#32)) := by
  unfold val0_8
  simp only [ops_7, TRef.binary, TRef.nullary, TRef.unary, TRef.toBuf, TRef.ofBuf, cast_eq]
  after_results_simp
  simp only [val0_7_main_call0_call0_v1, val0_7_main_call0_call0_v135, val0_7_main_call0_call0_v136, val0_7_main_call0_call0_v129] <;> rfl
set_option maxRecDepth 8192 in
set_option maxHeartbeats 2000000 in
/-- After 8 parts of the program the buffer main_call0_call0_v159 holds its term. -/
theorem val0_8_main_call0_call0_v159 (V0 : Valuation τ sig (Elt F)) : val0_8 V0 (no_index (Proc.devRef .tc main_call0_call0_v159)) = broadcastInDim S32x1000000 ![] bcast_S_S32x1000000 (constantI S_ 32 6#32) := by
  unfold val0_8
  simp only [ops_7, TRef.binary, TRef.nullary, TRef.unary, TRef.toBuf, TRef.ofBuf, cast_eq]
  after_results_simp
  all_goals rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27]
set_option maxRecDepth 8192 in
/-- The operations of part 8 write within the list of its buffers. -/
theorem ops_8_writes : (ops_8 : List (HloOp τ sig (Elt F))).Forall fun op => op.writes ⊆ (ops_8_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
/-- After 9 parts of the program the buffer main_arg0 holds its term. -/
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
/-- After 9 parts of the program the buffer main_arg1 holds its term. -/
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
/-- After 9 parts of the program the buffer main_v2 holds its term. -/
theorem val0_9_main_v2 (V0 : Valuation τ sig (Elt F)) : val0_9 V0 (no_index (Proc.devRef .tc main_v2)) = mulf (V0 (Proc.devRef .tc main_arg0)) (broadcastInDim S32x1000000 ![] bcast_S_S32x1000000 (Host.exp (V0 (Proc.devRef .tc main_arg1)))) :=
  (val0_9_keep V0 main_v2 (by decide)).trans (val0_8_main_v2 V0)
/-- After 9 parts of the program the buffer main_call0_v2 holds its term. -/
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
/-- After 9 parts of the program the buffer main_call0_v3 holds its term. -/
theorem val0_9_main_call0_v3 (V0 : Valuation τ sig (Elt F)) : val0_9 V0 (no_index (Proc.devRef .tc main_call0_v3)) = broadcastInDim S1x1 ![] bcast_S_S1x1 (id (constant S_ .f32 0x3F800000#32)) :=
  (val0_9_keep V0 main_call0_v3 (by decide)).trans (val0_8_main_call0_v3 V0)
set_option maxRecDepth 8192 in
set_option maxHeartbeats 2000000 in
/-- After 9 parts of the program the buffer main_call0_v27 holds its term. -/
theorem val0_9_main_call0_v27 (V0 : Valuation τ sig (Elt F)) : val0_9 V0 (no_index (Proc.devRef .tc main_call0_v27)) = subf (bitcastToFloat (F := F) .f32 (ori (Host.shrui (xori (addi (res_main_call0_call0_v163 V0) (broadcastInDim S32x1000000 ![] bcast_S_S32x1000000 (res_main_call0_call0_v1 V0))) (addi (addi (xori (res_main_call0_call0_v163 V0) (ori (Host.shli (res_main_call0_call0_v162 V0) (broadcastInDim S32x1000000 ![] bcast_S_S32x1000000 (constantI S_ 32 6#32))) (Host.shrui (res_main_call0_call0_v162 V0) (broadcastInDim S32x1000000 ![] bcast_S_S32x1000000 (constantI S_ 32 26#32))))) (broadcastInDim S32x1000000 ![] bcast_S_S32x1000000 (res_main_call0_v5 V0))) (broadcastInDim S32x1000000 ![] bcast_S_S32x1000000 (constantI S_ 32 5#32)))) (broadcastInDim S32x1000000 ![] bcast_S_S32x1000000 (constantI S_ 32 9#32))) (broadcastInDim S32x1000000 ![] bcast_S_S32x1000000 (constantI S_ 32 1065353216#32)))) (broadcastInDim S32x1000000 ![] bcast_S_S32x1000000 (constant S_ .f32 0x3F800000#32)) := by
  unfold val0_9
  simp only [ops_8, TRef.binary, TRef.nullary, TRef.unary, TRef.toBuf, TRef.ofBuf, cast_eq]
  after_results_simp
  simp only [val0_8_main_call0_v5, val0_8_main_call0_call0_v159, val0_8_main_call0_call0_v155, val0_8_main_call0_call0_v158, val0_8_main_call0_call0_v156, val0_8_main_call0_call0_v1] <;> rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call0_v28, main_call0_v29, main_call0_v30, main_call0_v31, main_call0_v32, main_call0_v33, main_v10, main_cst_3, main_v11, main_v12, main_v13, main_v14, main_cst_4, main_v15, main_v16, main_v17, main_v18, main_v19, main_cst_5, main_v20, main_v21, main_cst_6, main_v22, main_cst_7, main_v23, main_v24, main_v25, main_v26, main_v27, main_v28]
set_option maxRecDepth 8192 in
/-- The operations of part 9 write within the list of its buffers. -/
theorem ops_9_writes : (ops_9 : List (HloOp τ sig (Elt F))).Forall fun op => op.writes ⊆ (ops_9_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
/-- After 10 parts of the program the buffer main_arg0 holds its term. -/
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
/-- After 10 parts of the program the buffer main_arg1 holds its term. -/
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
set_option maxRecDepth 8192 in
set_option maxHeartbeats 2000000 in
/-- After 10 parts of the program the buffer main_v28 holds its term. -/
theorem val0_10_main_v28 (V0 : Valuation τ sig (Elt F)) : val0_10 V0 (no_index (Proc.devRef .tc main_v28)) = res_main_v28 V0 := by
  unfold val0_10
  simp only [ops_9, TRef.binary, TRef.unary, TRef.toBuf, TRef.ofBuf, cast_eq]
  after_results_simp
  simp only [val0_9_main_call0_v2, val0_9_main_call0_v3, val0_9_main_call0_v27, val0_9_main_v2] <;> rfl

/-- The device's buffer contents after @main's 305 operations. -/
def val1 (V0 : Valuation τ sig (Elt F)) : Valuation τ sig (Elt F) := after ops_10 (val0_10 V0)
/-- The buffers that window `ops_10`'s operations write. -/
abbrev ops_10_W : List (Ref sig .tc) := [main_cst_8, main_v29, main_v30, main_v31, main_v32]
set_option maxRecDepth 8192 in
/-- The operations of part 10 write within the list of its buffers. -/
theorem ops_10_writes : (ops_10 : List (HloOp τ sig (Elt F))).Forall fun op => op.writes ⊆ (ops_10_W.map (Proc.devRef (τ := τ) .tc)).toFinset := by
  simp only [List.Forall]
  (repeat' apply And.intro) <;> (simp only [nullary_writes, unary_writes, binary_writes, reshape_writes, Finset.singleton_subset_iff, List.mem_toFinset]; exact List.mem_map_of_mem (by decide))
/-- A buffer that window `ops_10` does not write keeps its contents through it. -/
theorem val1_keep (V0 : Valuation τ sig (Elt F)) (r : Ref sig .tc) (h : r ∉ ops_10_W) :
    val1 V0 (Proc.devRef .tc r) = val0_10 V0 (Proc.devRef .tc r) :=
  after_of_writes_sub ops_10 _ ops_10_writes h
/-- At its end the buffer main_arg0 holds its term. -/
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
/-- At its end the buffer main_arg1 holds its term. -/
theorem val1_main_arg1 (V0 : Valuation τ sig (Elt F)) : val1 V0 (no_index (Proc.devRef .tc main_arg1)) = V0 (Proc.devRef .tc main_arg1) :=
  (val1_keep V0 main_arg1 (by decide)).trans (val0_10_main_arg1 V0)
set_option maxRecDepth 8192 in
/-- At its end the buffer main_v32 holds its term. -/
theorem val1_main_v32 (V0 : Valuation τ sig (Elt F)) : val1 V0 (no_index (Proc.devRef .tc main_v32)) = Host.divf (res_main_v28 V0) (broadcastInDim S32x1000000 ![0, 1] bcast_S32x1_S32x1000000_0_1 (broadcastInDim S32x1 ![0] bcast_S32_S32x1_0 (Host.reduceAdd (res_main_v28 V0) (constant S_ .f32 0x00000000#32) reducesTo_S32x1000000_S32_d1 h_S_))) := by
  unfold val1
  simp only [ops_10]
  after_results_simp
  simp only [val0_10_main_v28] <;> rfl

/-- The operations run one part after another. -/
theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = Host.divf (res_main_v28 (launchContents m c)) (broadcastInDim S32x1000000 ![0, 1] bcast_S32x1_S32x1000000_0_1 (broadcastInDim S32x1 ![0] bcast_S32_S32x1_0 (Host.reduceAdd (res_main_v28 (launchContents m c)) (constant S_ .f32 0x00000000#32) reducesTo_S32x1000000_S32_d1 h_S_)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans ((congrFun (after_ops (launchContents m c)) (Proc.devRef .tc main_v32)).trans (val1_main_v32 (launchContents m c))),
      (h c main_arg0).trans ((congrFun (after_ops (launchContents m c)) (Proc.devRef .tc main_arg0)).trans (val1_main_arg0 (launchContents m c))),
      (h c main_arg1).trans ((congrFun (after_ops (launchContents m c)) (Proc.devRef .tc main_arg1)).trans (val1_main_arg1 (launchContents m c)))⟩)
    (run_seq scopedRefs_eq scopedSems_eq defs main (fun _ => ops) main_eq (fun _ => ops_sub) m ρ fun _ => ops_fresh)

end Cert.Proof.Ref

end
-- ==== Proof.Frames.lean ====
/- The three frames, as the claim states them: the kernel as printed, the kernel read over the extended reals and the
   reference read over the extended reals each run to their end, leave their arguments as they were and every semaphore
   counter at zero. -/
module

public import proofs.«01_k».proof.Defs
public import proofs.«01_k».proof.Proof.KernelFrame
public import proofs.«01_k».proof.Proof.IdealFrame
public import proofs.«01_k».proof.Proof.RefRun
public import Idealize.ShloMosaic.PureOps.BitExact
public import Idealize.ShloMosaic.Lib.Quiescent

@[expose] public section

noncomputable section

namespace Cert.Proof

open Idealize.ShloMosaic Idealize.SL.Sem

/-- The kernel as printed runs to its end from any memory, its arguments unchanged, its counters at zero. -/
theorem frame_kernel : Cert.quiescent_Kernel := fun m g _ => KernelFrame.run m g

/-- The same of the kernel over the extended reals. -/
theorem frame_ideal : Cert.quiescent_KernelIdeal := fun m g _ => IdealFrame.run m g

/-- The same of the reference over the extended reals; it declares no semaphore. -/
theorem frame_reference : Cert.quiescent_ReferenceIdeal := fun m g _ =>
  (θ_run _ _ _).mono (fun r h => ⟨fun c => (h c).2, sem_eq_zero_of_no_sems (by decide) r.2⟩) (Ref.run m g)

end Cert.Proof

end
-- ==== Proof.Chunk.lean ====
/- One chunk of 8 by 1280 exponentials, as one function of its columns and its starting counter: the kernel's body
   holds twelve unrolled copies of it. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.Value

@[expose] public section

set_option maxRecDepth 16384

noncomputable section

namespace Cert.Proof.Value

open Idealize.ShloMosaic Idealize.ShloMosaic.TcCoe Idealize.ShloMosaic.Tactic
open Cert.KernelIdeal Cert.KernelIdeal.Gen

variable {F : FTy → Type} [FloatOps F]

/-- A rotation of every word, left by `a`, where `a + b = 32`. -/
def rot (a b : BitVec 32) (x : IVec S8x1280 32) : IVec S8x1280 32 :=
  ori (shli x (broadcast S8x1280 a)) (shrui x (broadcast S8x1280 b))

/-- The second word of a round: the sum of the two, exclusive-or the second one rotated. -/
def mix (a b : BitVec 32) (x y : IVec S8x1280 32) : IVec S8x1280 32 := xori x (rot a b y)

/-- Four rounds after the words are added: from `(x, y)` with `x` already the sum. First word. -/
def four0 (a b a' b' a'' b'' : BitVec 32) (x y : IVec S8x1280 32) : IVec S8x1280 32 :=
  have y1 := mix a b x y
  have x2 := addi x y1
  have y2 := mix a' b' x2 y1
  have x3 := addi x2 y2
  have y3 := mix a'' b'' x3 y2
  addi x3 y3

/-- Four rounds, second word. -/
def four1 (a b a' b' a'' b'' a''' b''' : BitVec 32) (x y : IVec S8x1280 32) : IVec S8x1280 32 :=
  have y1 := mix a b x y
  have x2 := addi x y1
  have y2 := mix a' b' x2 y1
  have x3 := addi x2 y2
  have y3 := mix a'' b'' x3 y2
  mix a''' b''' (addi x3 y3) y3

/-- A constant added to every word of a chunk. -/
def plus (x : IVec S8x1280 32) (k : BitVec 32) : IVec S8x1280 32 := addi x (broadcast S8x1280 k)

/-- The random words of a chunk, from the counters. -/
def bits (w : IVec S8x1280 32) : IVec S8x1280 32 :=
  have x1 := plus (four0 13#32 19#32 15#32 17#32 26#32 6#32 w w) 42#32
  have y1 := plus (four1 13#32 19#32 15#32 17#32 26#32 6#32 6#32 26#32 w w) 466689009#32
  have s1 := addi x1 y1
  have x2 := plus (four0 17#32 15#32 29#32 3#32 16#32 16#32 s1 y1) 466689008#32
  have y2 := plus (four1 17#32 15#32 29#32 3#32 16#32 16#32 24#32 8#32 s1 y1) 2#32
  have s2 := addi x2 y2
  have x3 := plus (four0 13#32 19#32 15#32 17#32 26#32 6#32 s2 y2) 0#32
  have y3 := plus (four1 13#32 19#32 15#32 17#32 26#32 6#32 6#32 26#32 s2 y2) 45#32
  have s3 := addi x3 y3
  have x4 := plus (four0 17#32 15#32 29#32 3#32 16#32 16#32 s3 y3) 42#32
  have y4 := plus (four1 17#32 15#32 29#32 3#32 16#32 16#32 24#32 8#32 s3 y3) 466689012#32
  have s4 := addi x4 y4
  have x5 := plus (four0 13#32 19#32 15#32 17#32 26#32 6#32 s4 y4) 466689008#32
  have y5 := plus (four1 13#32 19#32 15#32 17#32 26#32 6#32 6#32 26#32 s4 y4) 5#32
  xori x5 y5

/-- The noise of a chunk, from the counters. -/
def noise (w : IVec S8x1280 32) : FVec F S8x1280 .f32 :=
  have f : FVec F S8x1280 .f32 := bitcastToFloat .f32 (ori (shrui (bits w) (broadcast S8x1280 9#32)) (broadcast S8x1280 1065353216#32))
  have u := subf f (broadcast S8x1280 (Scalar.ofBits .f32 0x3F800000#32))
  have l := subf (broadcast S8x1280 (Scalar.ofBits .f32 0x00000000#32)) (log (addf u (broadcast S8x1280 (Scalar.ofBits .f32 0x2EDBE6FF#32))))
  subf (broadcast S8x1280 (Scalar.ofBits .f32 0x00000000#32)) (log (addf l (broadcast S8x1280 (Scalar.ofBits .f32 0x2EDBE6FF#32))))

/-- The counters of a chunk starting at counter `b`. -/
def seeds (b : BitVec 32) : IVec S8x1280 32 := addi k0_pay2 (broadcast S8x1280 b)

/-- The exponentials of a chunk: of the scaled columns plus the noise, less 18. -/
def expo (s : FVec F S1x1 .f32) (x : Vec F S8x1280 .f32) (b : BitVec 32) : FVec F S8x1280 .f32 :=
  exp (subf (addf (mulf x (broadcastTo S8x1280 s broadcasts_S1x1_S8x1280)) (noise (seeds b)))
    (broadcast S8x1280 (Scalar.ofBits .f32 0x41900000#32)))

/-- The word of chunk `j` of trip `k`: where it starts in the window. -/
def start (k : ℕ) (j : BitVec 32) : BitVec 32 :=
  Scalar.muli (Scalar.addi (Scalar.muli (Scf.iv 0#32 1#32 k) 5#32) j) 1280#32

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (v0 : Vec F S1x1 .f32) (v8 : BitVec 32) (v11 : BitVec 32)
  (X : BufTy.Contents (Elt F) arg4.view.ty)

/-- What one trip of a full window's loop writes into the scratch array: five chunks. -/
theorem trip1_pieces (h : k0_cond2 i = 1#1) (k : Fin k0_t1_loop.trips) (acc : FVec F S8x1280 .f32) :
    tripL_k0_t1 (F := F) 𝒱 c bd i arg3 harg3 arg4 harg4 arg5 harg5 arg6 harg6 arg7 harg7 v0 v8 v11 h X k acc
      = [⟨Rect.unit (s := S8x1000000) (k0_off2 i k 4#32) S8x1280.size (k0_off2_inb i k h 4), expo (k0_pay1 v0) (View.readAt (Elt F) arg4.view (Rect.unit (s := S8x128000) (k0_off1 k 4#32) S8x1280.size (k0_off1_inb i k h 4)).toLoadRect X) (Scalar.addi v11 (start k 4#32))⟩,
        ⟨Rect.unit (s := S8x1000000) (k0_off2 i k 3#32) S8x1280.size (k0_off2_inb i k h 3), expo (k0_pay1 v0) (View.readAt (Elt F) arg4.view (Rect.unit (s := S8x128000) (k0_off1 k 3#32) S8x1280.size (k0_off1_inb i k h 3)).toLoadRect X) (Scalar.addi v11 (start k 3#32))⟩,
        ⟨Rect.unit (s := S8x1000000) (k0_off2 i k 2#32) S8x1280.size (k0_off2_inb i k h 2), expo (k0_pay1 v0) (View.readAt (Elt F) arg4.view (Rect.unit (s := S8x128000) (k0_off1 k 2#32) S8x1280.size (k0_off1_inb i k h 2)).toLoadRect X) (Scalar.addi v11 (start k 2#32))⟩,
        ⟨Rect.unit (s := S8x1000000) (k0_off2 i k 1#32) S8x1280.size (k0_off2_inb i k h 1), expo (k0_pay1 v0) (View.readAt (Elt F) arg4.view (Rect.unit (s := S8x128000) (k0_off1 k 1#32) S8x1280.size (k0_off1_inb i k h 1)).toLoadRect X) (Scalar.addi v11 (start k 1#32))⟩,
        ⟨Rect.unit (s := S8x1000000) (k0_off2 i k 0#32) S8x1280.size (k0_off2_inb i k h 0), expo (k0_pay1 v0) (View.readAt (Elt F) arg4.view (Rect.unit (s := S8x128000) (k0_off1 k 0#32) S8x1280.size (k0_off1_inb i k h 0)).toLoadRect X) (Scalar.addi v11 (start k 0#32))⟩] := by
  unfold tripL_k0_t1 trip_k0_t1
  dsimp only
  unfold k0_pay5 k0_pay48 k0_pay94 k0_pay138 k0_pay177
  simp only [shapeCast_self]
  rfl

/-- What one trip of a full window's loop adds to the value it carries: the same five chunks. -/
theorem trip1_value (h : k0_cond2 i = 1#1) (k : Fin k0_t1_loop.trips) (acc : FVec F S8x1280 .f32) :
    tripR_k0_t1 (F := F) 𝒱 c bd i arg3 harg3 arg4 harg4 arg5 harg5 arg6 harg6 arg7 harg7 v0 v8 v11 h X k acc
      = addf (addf (addf (addf (addf (acc)
        (expo (k0_pay1 v0) (View.readAt (Elt F) arg4.view (Rect.unit (s := S8x128000) (k0_off1 k 0#32) S8x1280.size (k0_off1_inb i k h 0)).toLoadRect X) (Scalar.addi v11 (start k 0#32))))
        (expo (k0_pay1 v0) (View.readAt (Elt F) arg4.view (Rect.unit (s := S8x128000) (k0_off1 k 1#32) S8x1280.size (k0_off1_inb i k h 1)).toLoadRect X) (Scalar.addi v11 (start k 1#32))))
        (expo (k0_pay1 v0) (View.readAt (Elt F) arg4.view (Rect.unit (s := S8x128000) (k0_off1 k 2#32) S8x1280.size (k0_off1_inb i k h 2)).toLoadRect X) (Scalar.addi v11 (start k 2#32))))
        (expo (k0_pay1 v0) (View.readAt (Elt F) arg4.view (Rect.unit (s := S8x128000) (k0_off1 k 3#32) S8x1280.size (k0_off1_inb i k h 3)).toLoadRect X) (Scalar.addi v11 (start k 3#32))))
        (expo (k0_pay1 v0) (View.readAt (Elt F) arg4.view (Rect.unit (s := S8x128000) (k0_off1 k 4#32) S8x1280.size (k0_off1_inb i k h 4)).toLoadRect X) (Scalar.addi v11 (start k 4#32))) := by
  unfold tripR_k0_t1 trip_k0_t1
  rfl

/-- What one trip of the last window's loop writes into the scratch array: five chunks. -/
theorem trip2_pieces (s : FVec F S1x1 .f32) (h : k0_cond3 i = 1#1) (k : Fin k0_t2_loop.trips) (acc : FVec F S8x1280 .f32) :
    tripL_k0_t2 (F := F) 𝒱 c bd i arg3 harg3 arg4 harg4 arg5 harg5 arg6 harg6 arg7 harg7 s k0_pay2 v8 v11 h X k acc
      = [⟨Rect.unit (s := S8x1000000) (k0_off4 i k 4#32) S8x1280.size (k0_off4_inb i k h 4), expo s (View.readAt (Elt F) arg4.view (Rect.unit (s := S8x128000) (k0_off3 k 4#32) S8x1280.size (k0_off3_inb i k h 4)).toLoadRect X) (Scalar.addi v11 (start k 4#32))⟩,
        ⟨Rect.unit (s := S8x1000000) (k0_off4 i k 3#32) S8x1280.size (k0_off4_inb i k h 3), expo s (View.readAt (Elt F) arg4.view (Rect.unit (s := S8x128000) (k0_off3 k 3#32) S8x1280.size (k0_off3_inb i k h 3)).toLoadRect X) (Scalar.addi v11 (start k 3#32))⟩,
        ⟨Rect.unit (s := S8x1000000) (k0_off4 i k 2#32) S8x1280.size (k0_off4_inb i k h 2), expo s (View.readAt (Elt F) arg4.view (Rect.unit (s := S8x128000) (k0_off3 k 2#32) S8x1280.size (k0_off3_inb i k h 2)).toLoadRect X) (Scalar.addi v11 (start k 2#32))⟩,
        ⟨Rect.unit (s := S8x1000000) (k0_off4 i k 1#32) S8x1280.size (k0_off4_inb i k h 1), expo s (View.readAt (Elt F) arg4.view (Rect.unit (s := S8x128000) (k0_off3 k 1#32) S8x1280.size (k0_off3_inb i k h 1)).toLoadRect X) (Scalar.addi v11 (start k 1#32))⟩,
        ⟨Rect.unit (s := S8x1000000) (k0_off4 i k 0#32) S8x1280.size (k0_off4_inb i k h 0), expo s (View.readAt (Elt F) arg4.view (Rect.unit (s := S8x128000) (k0_off3 k 0#32) S8x1280.size (k0_off3_inb i k h 0)).toLoadRect X) (Scalar.addi v11 (start k 0#32))⟩] := by
  unfold tripL_k0_t2 trip_k0_t2
  dsimp only
  unfold k0_pay438 k0_pay391 k0_pay352 k0_pay308 k0_pay262
  simp only [shapeCast_self]
  rfl

/-- What one trip of the last window's loop adds to the value it carries: the same five chunks. -/
theorem trip2_value (s : FVec F S1x1 .f32) (h : k0_cond3 i = 1#1) (k : Fin k0_t2_loop.trips) (acc : FVec F S8x1280 .f32) :
    tripR_k0_t2 (F := F) 𝒱 c bd i arg3 harg3 arg4 harg4 arg5 harg5 arg6 harg6 arg7 harg7 s k0_pay2 v8 v11 h X k acc
      = addf (addf (addf (addf (addf (acc)
        (expo s (View.readAt (Elt F) arg4.view (Rect.unit (s := S8x128000) (k0_off3 k 0#32) S8x1280.size (k0_off3_inb i k h 0)).toLoadRect X) (Scalar.addi v11 (start k 0#32))))
        (expo s (View.readAt (Elt F) arg4.view (Rect.unit (s := S8x128000) (k0_off3 k 1#32) S8x1280.size (k0_off3_inb i k h 1)).toLoadRect X) (Scalar.addi v11 (start k 1#32))))
        (expo s (View.readAt (Elt F) arg4.view (Rect.unit (s := S8x128000) (k0_off3 k 2#32) S8x1280.size (k0_off3_inb i k h 2)).toLoadRect X) (Scalar.addi v11 (start k 2#32))))
        (expo s (View.readAt (Elt F) arg4.view (Rect.unit (s := S8x128000) (k0_off3 k 3#32) S8x1280.size (k0_off3_inb i k h 3)).toLoadRect X) (Scalar.addi v11 (start k 3#32))))
        (expo s (View.readAt (Elt F) arg4.view (Rect.unit (s := S8x128000) (k0_off3 k 4#32) S8x1280.size (k0_off3_inb i k h 4)).toLoadRect X) (Scalar.addi v11 (start k 4#32))) := by
  unfold tripR_k0_t2 trip_k0_t2
  rfl

end
end Cert.Proof.Value
end
-- ==== Proof.Cell.lean ====
/- One exponential of a chunk, read at its row and lane: a function of one logit, of the scale and of one counter. -/
module

public import proofs.«01_k».proof.Proof.Chunk
public import Idealize.ShloMosaic.Lib.Pointwise

@[expose] public section

set_option maxRecDepth 16384

noncomputable section

namespace Cert.Proof.Value

open Idealize.ShloMosaic Idealize.ShloMosaic.TcCoe Idealize.ShloMosaic.Tactic
open Cert.KernelIdeal Cert.KernelIdeal.Gen

variable {F : FTy → Type} [FloatOps F]

/-- A rotation of a word to the left by `a`, where `a + b = 32`. -/
def rotW (a b : BitVec 32) (x : BitVec 32) : BitVec 32 :=
  Scalar.ori (Scalar.shli x a) (Scalar.shrui x b)

/-- The second word of a round. -/
def mixW (a b : BitVec 32) (x y : BitVec 32) : BitVec 32 := Scalar.xori x (rotW a b y)

/-- Four rounds on two words whose sum `x` is already taken: the first word. -/
def four0W (a b a' b' a'' b'' : BitVec 32) (x y : BitVec 32) : BitVec 32 :=
  have y1 := mixW a b x y
  have x2 := Scalar.addi x y1
  have y2 := mixW a' b' x2 y1
  have x3 := Scalar.addi x2 y2
  have y3 := mixW a'' b'' x3 y2
  Scalar.addi x3 y3

/-- Four rounds on two words whose sum `x` is already taken: the second word. -/
def four1W (a b a' b' a'' b'' a''' b''' : BitVec 32) (x y : BitVec 32) : BitVec 32 :=
  have y1 := mixW a b x y
  have x2 := Scalar.addi x y1
  have y2 := mixW a' b' x2 y1
  have x3 := Scalar.addi x2 y2
  have y3 := mixW a'' b'' x3 y2
  mixW a''' b''' (Scalar.addi x3 y3) y3

/-- The random word of a counter. -/
def bitsW (w : BitVec 32) : BitVec 32 :=
  have x1 := Scalar.addi (four0W 13#32 19#32 15#32 17#32 26#32 6#32 w w) 42#32
  have y1 := Scalar.addi (four1W 13#32 19#32 15#32 17#32 26#32 6#32 6#32 26#32 w w) 466689009#32
  have s1 := Scalar.addi x1 y1
  have x2 := Scalar.addi (four0W 17#32 15#32 29#32 3#32 16#32 16#32 s1 y1) 466689008#32
  have y2 := Scalar.addi (four1W 17#32 15#32 29#32 3#32 16#32 16#32 24#32 8#32 s1 y1) 2#32
  have s2 := Scalar.addi x2 y2
  have x3 := Scalar.addi (four0W 13#32 19#32 15#32 17#32 26#32 6#32 s2 y2) 0#32
  have y3 := Scalar.addi (four1W 13#32 19#32 15#32 17#32 26#32 6#32 6#32 26#32 s2 y2) 45#32
  have s3 := Scalar.addi x3 y3
  have x4 := Scalar.addi (four0W 17#32 15#32 29#32 3#32 16#32 16#32 s3 y3) 42#32
  have y4 := Scalar.addi (four1W 17#32 15#32 29#32 3#32 16#32 16#32 24#32 8#32 s3 y3) 466689012#32
  have s4 := Scalar.addi x4 y4
  have x5 := Scalar.addi (four0W 13#32 19#32 15#32 17#32 26#32 6#32 s4 y4) 466689008#32
  have y5 := Scalar.addi (four1W 13#32 19#32 15#32 17#32 26#32 6#32 6#32 26#32 s4 y4) 5#32
  Scalar.xori x5 y5

/-- The noise of a counter. -/
def noiseW (w : BitVec 32) : F .f32 :=
  have f : F .f32 := FloatOps.ofBits .f32 (Scalar.ori (Scalar.shrui (bitsW w) 9#32) 1065353216#32)
  have u := FloatOps.subf f (FloatOps.ofBits .f32 0x3F800000#32)
  have l := FloatOps.subf (FloatOps.ofBits .f32 0x00000000#32) (FloatOps.log (FloatOps.addf u (FloatOps.ofBits .f32 0x2EDBE6FF#32)))
  FloatOps.subf (FloatOps.ofBits .f32 0x00000000#32) (FloatOps.log (FloatOps.addf l (FloatOps.ofBits .f32 0x2EDBE6FF#32)))

/-- The exponential of a logit `x` under the scale `s` and the counter `w`. -/
def cell (s x : F .f32) (w : BitVec 32) : F .f32 :=
  FloatOps.exp (FloatOps.subf (FloatOps.addf (FloatOps.mulf x s) (noiseW w)) (FloatOps.ofBits .f32 0x41900000#32))

/-- A chunk's random word at an index is that of its counter. -/
theorem bits_apply (w : IVec S8x1280 32) (j : S8x1280.Idx) : bits w j = bitsW (w j) := rfl

/-- A chunk's noise at an index is that of its counter. -/
theorem noise_apply (w : IVec S8x1280 32) (j : S8x1280.Idx) : noise (F := F) w j = noiseW (w j) := rfl

/-- The counter of row `r` and lane `l` of a chunk that starts at counter `b`. -/
def counter (b : BitVec 32) (r l : ℕ) : BitVec 32 := BitVec.ofNat 32 (1000000 * r + l) + b

/-- The counters of a chunk, read at a row and a lane. -/
theorem seeds_apply (b : BitVec 32) (r : Fin 8) (l : Fin 1280) : seeds b (ix2 r l) = counter b r.val l.val := by
  unfold seeds k0_pay2 counter
  pointwise
  simp only [IntOp.addi, IntOp.muli, BitVec.ofNat_add, BitVec.ofNat_mul]
  rw [BitVec.mul_comm]

/-- The exponentials of a chunk, read at a row and a lane. -/
theorem expo_apply (s : FVec F S1x1 .f32) (x : Vec F S8x1280 .f32) (b : BitVec 32) (r : Fin 8) (l : Fin 1280) :
    expo s x b (ix2 r l) = cell (s (ix2 0 0)) (x (ix2 r l)) (counter b r.val l.val) := by
  rw [← seeds_apply]
  unfold expo cell
  pointwise
  rw [noise_apply]

end Cert.Proof.Value
end
-- ==== Proof.Fill.lean ====
/- A rank-two array filled from left to right by blocks of whole rows: what it reads after each block. -/
module

public import Idealize.ShloMosaic.Lib.WritesUnit
public import Idealize.ShloMosaic.Lib.VecWindow
public import Idealize.ShloMosaic.Lib.Pointwise

@[expose] public section

noncomputable section

namespace Cert.Proof.Value

open Idealize.ShloMosaic

variable {sig : RefSig} {κ : Kind} {sp : Space} {e : EltTy} {Val : EltTy → Type} {N : ℕ}

/-- `Filled v f g lo hi V`: the array reads `V` on the columns from `lo` up to `hi`, and what `f` holds elsewhere. -/
def Filled (v : View sig κ sp (⟨2, ![8, N]⟩ : Shape) e) (f g : v.ty.Contents Val) (lo hi : ℕ)
    (V : ℕ → ℕ → Val e) : Prop :=
  ∀ (r : Fin 8) (c : Fin N), v.read Val g (ix2 r c)
    = if lo ≤ c.val ∧ c.val < hi then V r.val c.val else v.read Val f (ix2 r c)

/-- Nothing is filled yet. -/
theorem Filled.nil (v : View sig κ sp (⟨2, ![8, N]⟩ : Shape) e) (f : v.ty.Contents Val) (lo : ℕ)
    (V : ℕ → ℕ → Val e) : Filled v f f lo lo V := fun r c => by
  rw [if_neg (by omega)]

/-- One block more: its columns start where the filled ones end. -/
theorem Filled.cons {v : View sig κ sp (⟨2, ![8, N]⟩ : Shape) e} {f f₀ : v.ty.Contents Val} {lo hi : ℕ}
    {V : ℕ → ℕ → Val e} {L : List (View.Piece Val (⟨2, ![8, N]⟩ : Shape) e)} (hf : Filled v f (v.writes Val f₀ L) lo hi V)
    (hle : lo ≤ hi) {n : ℕ} (hi' : ℕ) (hn : hi' = hi + n) {off : Fin 2 → ℕ} (hoff : off = ![0, hi])
    (inb : ∀ a, off a + (![8, n] : Fin 2 → ℕ) a ≤ (![8, N] : Fin 2 → ℕ) a)
    (w : (⟨2, ![8, n]⟩ : Shape).Idx → Val e) (hw : ∀ (r : Fin 8) (l : Fin n), w (ix2 r l) = V r.val (hi + l.val)) :
    Filled v f (v.writes Val f₀ ((⟨Rect.unit (s := ⟨2, ![8, N]⟩) off ![8, n] inb, w⟩
      : View.Piece Val (⟨2, ![8, N]⟩ : Shape) e) :: L)) lo hi' V := fun r c => by
  subst hn
  by_cases h1 : hi ≤ c.val ∧ c.val < hi + n
  · rw [if_pos (by omega), View.read_writes_cons_unit_of_mem v f₀ inb w L (ix2 r c)
      (ix2 r ⟨c.val - hi, by omega⟩ : (⟨2, ![8, n]⟩ : Shape).Idx) hoff
      (Fin.forall_fin_two.mpr ⟨(Nat.zero_add _).symm, by show c.val = hi + (c.val - hi); omega⟩), hw]
    congr 1
    show hi + (c.val - hi) = c.val
    omega
  · rw [View.read_writes_cons_unit_of_not_mem v f₀ inb w L (ix2 r c) hoff (1 : Fin 2)
      (by show c.val < hi ∨ hi + n ≤ c.val; omega), hf r c]
    congr 1
    apply propext
    omega

end Cert.Proof.Value
end
-- ==== Proof.Trips.lean ====
/- The loops over a phase-0 window, trip by trip: the scratch array fills from left to right with exponentials, and the
   carried value gathers them lane by lane. -/
module

public import proofs.«01_k».proof.Proof.Cell
public import proofs.«01_k».proof.Proof.Fill
public import Idealize.ShloMosaic.PureOps.Ideal

@[expose] public section

set_option maxRecDepth 16384

noncomputable section

namespace Cert.Proof.Value

open Idealize.ShloMosaic Idealize.ShloMosaic.TcCoe Idealize.ShloMosaic.Tactic
open Cert.KernelIdeal Cert.KernelIdeal.Gen

/-- The entry of a rank-two array at a row and a column given as numbers; zero outside. -/
def at2 {m n : ℕ} (x : (⟨2, ![m, n]⟩ : Shape).Idx → EReal) (r c : ℕ) : EReal :=
  if h : r < m ∧ c < n then x (ix2 ⟨r, h.1⟩ ⟨c, h.2⟩) else 0

/-- Inside the array `at2` is the entry. -/
theorem at2_fin {m n : ℕ} (x : (⟨2, ![m, n]⟩ : Shape).Idx → EReal) (r : Fin m) (c : Fin n) :
    at2 x r.val c.val = x (ix2 r c) := dif_pos ⟨r.isLt, c.isLt⟩

/-- The exponential of a window at row `r` and column `w`: `x` is the window, `s` the scale, `b` the window's first
counter. -/
def wexp (s : EReal) (x : S8x128000.Idx → EReal) (b : BitVec 32) (r w : ℕ) : EReal :=
  cell (F := Ideal) s (at2 x r w) (counter b r w)

/-- The word at which chunk `j` of trip `k` starts. -/
theorem start_eq (k : ℕ) (j : ℕ) : start k (BitVec.ofNat 32 j) = BitVec.ofNat 32 (6400 * k + 1280 * j) := by
  unfold start Scf.iv Scalar.addi Scalar.muli IntOp.addi IntOp.muli
  apply BitVec.eq_of_toNat_eq
  simp
  omega

/-- One chunk of a window's exponentials, read at a row and a lane. -/
theorem chunk_apply {v : View sig .tc .vmem S8x128000 .f32} (X : BufTy.Contents (Elt Ideal) v.ty)
    (s : FVec Ideal S1x1 .f32) (b b' : BitVec 32) (w₀ : ℕ) (hb : b' = BitVec.ofNat 32 w₀) {off : Fin 2 → ℕ}
    (hoff : off = ![0, w₀]) (inb : ∀ a, off a + S8x1280.size a ≤ S8x128000.size a) (r : Fin 8) (l : Fin 1280) :
    expo s (View.readAt (Elt Ideal) v (Rect.unit (s := S8x128000) off S8x1280.size inb).toLoadRect X) (Scalar.addi b b')
        (ix2 r l)
      = wexp (s (ix2 0 0)) (v.read (Elt Ideal) X) b r.val (w₀ + l.val) := by
  subst hoff hb
  have hw : w₀ + 1280 ≤ 128000 := inb 1
  rw [expo_apply]
  unfold wexp
  have e1 : View.readAt (Elt Ideal) v (Rect.unit (s := S8x128000) ![0, w₀] S8x1280.size inb).toLoadRect X (ix2 r l)
      = at2 (v.read (Elt Ideal) X) r.val (w₀ + l.val) := by
    unfold at2
    rw [dif_pos ⟨r.isLt, by omega⟩, View.readAt_apply]
    congr 1
    funext a
    apply Fin.ext
    revert a
    exact Fin.forall_fin_two.mpr ⟨by show 0 + 1 * r.val = r.val; omega, by
      show w₀ + 1 * l.val = w₀ + l.val; omega⟩
  have e2 : counter (Scalar.addi b (BitVec.ofNat 32 w₀)) r.val l.val = counter b r.val (w₀ + l.val) := by
    unfold counter Scalar.addi IntOp.addi
    apply BitVec.eq_of_toNat_eq
    simp
    omega
  rw [e1, e2]

/-- Five chunks added to what is carried: the sum over five more chunks. -/
theorem five (g : ℕ → EReal) (a : EReal) (n : ℕ) :
    (((((a + ∑ q ∈ Finset.range (5 * n), g q) + g (5 * n)) + g (5 * n + 1)) + g (5 * n + 2)) + g (5 * n + 3))
      + g (5 * n + 4) = a + ∑ q ∈ Finset.range (5 * (n + 1)), g q := by
  rw [show 5 * (n + 1) = 5 * n + 1 + 1 + 1 + 1 + 1 from by ring]
  simp only [Finset.sum_range_succ, ← add_assoc]

/-- The last chunk's exponentials: those of its first 320 lanes, zero on the others. -/
def tailE {F : FTy → Type} [FloatOps F] (s : FVec F S1x1 .f32) (x : Vec F S8x1280 .f32) (b : BitVec 32) :
    FVec F S8x1280 .f32 :=
  select (cmpi .slt (iota .tc S8x1280 32 [1] iota_S8x1280_d1_w32) (broadcast S8x1280 320#32)) (expo s x b)
    (broadcast S8x1280 (Scalar.ofBits .f32 0x00000000#32))

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (v0 : Vec Ideal S1x1 .f32) (v8 : BitVec 32) (v11 : BitVec 32)
  (X : BufTy.Contents (Elt Ideal) arg4.view.ty) (f6 : BufTy.Contents (Elt Ideal) arg6.view.ty)
  (init : FVec Ideal S8x1280 .f32)

/-- Before trip `n` of the loop: the first `6400 n` columns of the window are filled, and the carried value has
gathered `5 n` chunks. -/
theorem trips1 (h : k0_cond2 i = 1#1) (V : ℕ → ℕ → EReal)
    (hV : ∀ r w, V r (128000 * (i 2).val + w) = wexp ((k0_pay1 v0) (ix2 0 0)) (arg4.view.read (Elt Ideal) X) v11 r w) :
    ∀ n, n ≤ k0_t1_loop.trips →
      Filled (Val := Elt Ideal) arg6.view f6 (arg6.view.writes (Elt Ideal) f6 (st_k0_t1 (F := Ideal) 𝒱 c bd i arg3 harg3 arg4 harg4 arg5 harg5 arg6 harg6 arg7 harg7 v0 v8 v11 h X init n).2)
          (128000 * (i 2).val) (128000 * (i 2).val + 6400 * n) V
        ∧ ∀ (r : Fin 8) (l : Fin 1280), (st_k0_t1 (F := Ideal) 𝒱 c bd i arg3 harg3 arg4 harg4 arg5 harg5 arg6 harg6 arg7 harg7 v0 v8 v11 h X init n).1 (ix2 r l)
            = init (ix2 r l) + ∑ q ∈ Finset.range (5 * n), V r.val (128000 * (i 2).val + (1280 * q + l.val)) := by
  intro n
  induction n with
  | zero =>
    intro _
    refine ⟨Filled.nil _ _ _ _, fun r l => ?_⟩
    rw [Nat.mul_zero, Finset.range_zero, Finset.sum_empty, add_zero]
    rfl
  | succ n ih =>
    intro hn'
    have hn : n < k0_t1_loop.trips := hn'
    obtain ⟨ihF, ihA⟩ := ih hn.le
    have key := st_k0_t1_succ (F := Ideal) 𝒱 c bd i arg3 harg3 arg4 harg4 arg5 harg5 arg6 harg6 arg7 harg7 v0 v8 v11 h X init ⟨n, hn⟩
    dsimp only at key
    rw [key, trip1_pieces, trip1_value]
    dsimp only [List.cons_append, List.nil_append]
    have c0 := (chunk_apply X (k0_pay1 v0) v11 _ (6400 * n + 1280 * 0) (start_eq n 0) (k0_off1_eq ⟨n, hn⟩ 0) (k0_off1_inb i ⟨n, hn⟩ h 0))
    have c1 := (chunk_apply X (k0_pay1 v0) v11 _ (6400 * n + 1280 * 1) (start_eq n 1) (k0_off1_eq ⟨n, hn⟩ 1) (k0_off1_inb i ⟨n, hn⟩ h 1))
    have c2 := (chunk_apply X (k0_pay1 v0) v11 _ (6400 * n + 1280 * 2) (start_eq n 2) (k0_off1_eq ⟨n, hn⟩ 2) (k0_off1_inb i ⟨n, hn⟩ h 2))
    have c3 := (chunk_apply X (k0_pay1 v0) v11 _ (6400 * n + 1280 * 3) (start_eq n 3) (k0_off1_eq ⟨n, hn⟩ 3) (k0_off1_inb i ⟨n, hn⟩ h 3))
    have c4 := (chunk_apply X (k0_pay1 v0) v11 _ (6400 * n + 1280 * 4) (start_eq n 4) (k0_off1_eq ⟨n, hn⟩ 4) (k0_off1_inb i ⟨n, hn⟩ h 4))
    constructor
    · have F0 := ihF
      have F1 := F0.cons (by omega) (128000 * (i 2).val + 6400 * n + 1280 * 1) (by omega) (n := 1280)
        ((k0_off2_eq i ⟨n, hn⟩ 0).trans (by simp [Nat.add_assoc])) (k0_off2_inb i ⟨n, hn⟩ h 0) _
        (fun r l => (c0 r l).trans ((hV r.val _).symm.trans (by congr 1; omega)))
      have F2 := F1.cons (by omega) (128000 * (i 2).val + 6400 * n + 1280 * 2) (by omega) (n := 1280)
        ((k0_off2_eq i ⟨n, hn⟩ 1).trans (by simp [Nat.add_assoc])) (k0_off2_inb i ⟨n, hn⟩ h 1) _
        (fun r l => (c1 r l).trans ((hV r.val _).symm.trans (by congr 1; omega)))
      have F3 := F2.cons (by omega) (128000 * (i 2).val + 6400 * n + 1280 * 3) (by omega) (n := 1280)
        ((k0_off2_eq i ⟨n, hn⟩ 2).trans (by simp [Nat.add_assoc])) (k0_off2_inb i ⟨n, hn⟩ h 2) _
        (fun r l => (c2 r l).trans ((hV r.val _).symm.trans (by congr 1; omega)))
      have F4 := F3.cons (by omega) (128000 * (i 2).val + 6400 * n + 1280 * 4) (by omega) (n := 1280)
        ((k0_off2_eq i ⟨n, hn⟩ 3).trans (by simp [Nat.add_assoc])) (k0_off2_inb i ⟨n, hn⟩ h 3) _
        (fun r l => (c3 r l).trans ((hV r.val _).symm.trans (by congr 1; omega)))
      have F5 := F4.cons (by omega) (128000 * (i 2).val + 6400 * n + 1280 * 5) (by omega) (n := 1280)
        ((k0_off2_eq i ⟨n, hn⟩ 4).trans (by simp [Nat.add_assoc])) (k0_off2_inb i ⟨n, hn⟩ h 4) _
        (fun r l => (c4 r l).trans ((hV r.val _).symm.trans (by congr 1; omega)))
      have e : 128000 * (i 2).val + 6400 * n + 1280 * 5 = 128000 * (i 2).val + 6400 * (n + 1) := by omega
      rw [← e]
      exact F5
    · intro r l
      have E := five (fun q => V r.val (128000 * (i 2).val + (1280 * q + l.val))) (init (ix2 r l)) n
      rw [← ihA r l] at E
      rw [← E]
      refine congrArg₂ (· + ·) (congrArg₂ (· + ·) (congrArg₂ (· + ·) (congrArg₂ (· + ·) (congrArg₂ (· + ·) rfl ?_) ?_) ?_) ?_) ?_
      · exact (c0 r l).trans ((hV r.val _).symm.trans (by dsimp only; congr 1; omega))
      · exact (c1 r l).trans ((hV r.val _).symm.trans (by dsimp only; congr 1; omega))
      · exact (c2 r l).trans ((hV r.val _).symm.trans (by dsimp only; congr 1; omega))
      · exact (c3 r l).trans ((hV r.val _).symm.trans (by dsimp only; congr 1; omega))
      · exact (c4 r l).trans ((hV r.val _).symm.trans (by dsimp only; congr 1; omega))

/-- Before trip `n` of the loop: the first `6400 n` columns of the window are filled, and the carried value has
gathered `5 n` chunks. -/
theorem trips2 (s : FVec Ideal S1x1 .f32) (h : k0_cond3 i = 1#1) (V : ℕ → ℕ → EReal)
    (hV : ∀ r w, V r (128000 * (i 2).val + w) = wexp (s (ix2 0 0)) (arg4.view.read (Elt Ideal) X) v11 r w) :
    ∀ n, n ≤ k0_t2_loop.trips →
      Filled (Val := Elt Ideal) arg6.view f6 (arg6.view.writes (Elt Ideal) f6 (st_k0_t2 (F := Ideal) 𝒱 c bd i arg3 harg3 arg4 harg4 arg5 harg5 arg6 harg6 arg7 harg7 s k0_pay2 v8 v11 h X init n).2)
          (128000 * (i 2).val) (128000 * (i 2).val + 6400 * n) V
        ∧ ∀ (r : Fin 8) (l : Fin 1280), (st_k0_t2 (F := Ideal) 𝒱 c bd i arg3 harg3 arg4 harg4 arg5 harg5 arg6 harg6 arg7 harg7 s k0_pay2 v8 v11 h X init n).1 (ix2 r l)
            = init (ix2 r l) + ∑ q ∈ Finset.range (5 * n), V r.val (128000 * (i 2).val + (1280 * q + l.val)) := by
  intro n
  induction n with
  | zero =>
    intro _
    refine ⟨Filled.nil _ _ _ _, fun r l => ?_⟩
    rw [Nat.mul_zero, Finset.range_zero, Finset.sum_empty, add_zero]
    rfl
  | succ n ih =>
    intro hn'
    have hn : n < k0_t2_loop.trips := hn'
    obtain ⟨ihF, ihA⟩ := ih hn.le
    have key := st_k0_t2_succ (F := Ideal) 𝒱 c bd i arg3 harg3 arg4 harg4 arg5 harg5 arg6 harg6 arg7 harg7 s k0_pay2 v8 v11 h X init ⟨n, hn⟩
    dsimp only at key
    rw [key, trip2_pieces, trip2_value]
    dsimp only [List.cons_append, List.nil_append]
    have c0 := (chunk_apply X s v11 _ (6400 * n + 1280 * 0) (start_eq n 0) (k0_off3_eq ⟨n, hn⟩ 0) (k0_off3_inb i ⟨n, hn⟩ h 0))
    have c1 := (chunk_apply X s v11 _ (6400 * n + 1280 * 1) (start_eq n 1) (k0_off3_eq ⟨n, hn⟩ 1) (k0_off3_inb i ⟨n, hn⟩ h 1))
    have c2 := (chunk_apply X s v11 _ (6400 * n + 1280 * 2) (start_eq n 2) (k0_off3_eq ⟨n, hn⟩ 2) (k0_off3_inb i ⟨n, hn⟩ h 2))
    have c3 := (chunk_apply X s v11 _ (6400 * n + 1280 * 3) (start_eq n 3) (k0_off3_eq ⟨n, hn⟩ 3) (k0_off3_inb i ⟨n, hn⟩ h 3))
    have c4 := (chunk_apply X s v11 _ (6400 * n + 1280 * 4) (start_eq n 4) (k0_off3_eq ⟨n, hn⟩ 4) (k0_off3_inb i ⟨n, hn⟩ h 4))
    constructor
    · have F0 := ihF
      have F1 := F0.cons (by omega) (128000 * (i 2).val + 6400 * n + 1280 * 1) (by omega) (n := 1280)
        ((k0_off4_eq i ⟨n, hn⟩ 0).trans (by simp [Nat.add_assoc])) (k0_off4_inb i ⟨n, hn⟩ h 0) _
        (fun r l => (c0 r l).trans ((hV r.val _).symm.trans (by congr 1; omega)))
      have F2 := F1.cons (by omega) (128000 * (i 2).val + 6400 * n + 1280 * 2) (by omega) (n := 1280)
        ((k0_off4_eq i ⟨n, hn⟩ 1).trans (by simp [Nat.add_assoc])) (k0_off4_inb i ⟨n, hn⟩ h 1) _
        (fun r l => (c1 r l).trans ((hV r.val _).symm.trans (by congr 1; omega)))
      have F3 := F2.cons (by omega) (128000 * (i 2).val + 6400 * n + 1280 * 3) (by omega) (n := 1280)
        ((k0_off4_eq i ⟨n, hn⟩ 2).trans (by simp [Nat.add_assoc])) (k0_off4_inb i ⟨n, hn⟩ h 2) _
        (fun r l => (c2 r l).trans ((hV r.val _).symm.trans (by congr 1; omega)))
      have F4 := F3.cons (by omega) (128000 * (i 2).val + 6400 * n + 1280 * 4) (by omega) (n := 1280)
        ((k0_off4_eq i ⟨n, hn⟩ 3).trans (by simp [Nat.add_assoc])) (k0_off4_inb i ⟨n, hn⟩ h 3) _
        (fun r l => (c3 r l).trans ((hV r.val _).symm.trans (by congr 1; omega)))
      have F5 := F4.cons (by omega) (128000 * (i 2).val + 6400 * n + 1280 * 5) (by omega) (n := 1280)
        ((k0_off4_eq i ⟨n, hn⟩ 4).trans (by simp [Nat.add_assoc])) (k0_off4_inb i ⟨n, hn⟩ h 4) _
        (fun r l => (c4 r l).trans ((hV r.val _).symm.trans (by congr 1; omega)))
      have e : 128000 * (i 2).val + 6400 * n + 1280 * 5 = 128000 * (i 2).val + 6400 * (n + 1) := by omega
      rw [← e]
      exact F5
    · intro r l
      have E := five (fun q => V r.val (128000 * (i 2).val + (1280 * q + l.val))) (init (ix2 r l)) n
      rw [← ihA r l] at E
      rw [← E]
      refine congrArg₂ (· + ·) (congrArg₂ (· + ·) (congrArg₂ (· + ·) (congrArg₂ (· + ·) (congrArg₂ (· + ·) rfl ?_) ?_) ?_) ?_) ?_
      · exact (c0 r l).trans ((hV r.val _).symm.trans (by dsimp only; congr 1; omega))
      · exact (c1 r l).trans ((hV r.val _).symm.trans (by dsimp only; congr 1; omega))
      · exact (c2 r l).trans ((hV r.val _).symm.trans (by dsimp only; congr 1; omega))
      · exact (c3 r l).trans ((hV r.val _).symm.trans (by dsimp only; congr 1; omega))
      · exact (c4 r l).trans ((hV r.val _).symm.trans (by dsimp only; congr 1; omega))

end
end Cert.Proof.Value
end
-- ==== Proof.Body.lean ====
/- One call of the kernel's body: what it leaves in the scratch buffers and in the result block, as written-out
   contents. -/
module

public import proofs.«01_k».proof.Proof.Trips
public import proofs.«01_k».proof.Proof.IdealBody
public import Idealize.ShloMosaic.Lib.LoopRemainder
public import Idealize.ShloMosaic.Lib.Tactic.Stretches

@[expose] public section

set_option maxRecDepth 16384

noncomputable section

namespace Cert.Proof.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.IdealFrame (cond1)

local notation "𝕄" => MT nD τ sig Unit (Elt Ideal) ℕ (UR sig nD τ) ℕ

/-- The column at which window `i 2` starts, as a word. -/
abbrev col0 (i : grid0.Coords) : BitVec 32 := Scalar.muli (BitVec.ofNat 32 (i 2).val) 128000#32

/-- The counter at which window `i 2` of row group `i 0` starts. -/
abbrev count0 (i : grid0.Coords) : BitVec 32 :=
  Scalar.addi (Scalar.addi (Scalar.muli (BitVec.ofNat 32 (i 0).val) 8000000#32) (col0 i)) 42#32

/-- The five buffers of a call, each at given contents. -/
abbrev Bufs (c : Dev nD) (arg3 : Memref sig .tc .vmem S1x1 .f32) (arg4 arg5 : Memref sig .tc .vmem S8x128000 .f32)
    (arg6 : Memref sig .tc .vmem S8x1000000 .f32) (arg7 : Memref sig .tc .vmem S8x1280 .f32)
    (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty)
    (f7 : BufTy.Contents (Elt Ideal) arg7.view.ty) : sProp 𝕄 :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7))

/-- The same with the last three at some contents of which `P` holds. -/
abbrev After (c : Dev nD) (arg3 : Memref sig .tc .vmem S1x1 .f32) (arg4 arg5 : Memref sig .tc .vmem S8x128000 .f32)
    (arg6 : Memref sig .tc .vmem S8x1000000 .f32) (arg7 : Memref sig .tc .vmem S8x1280 .f32)
    (X3 : BufTy.Contents (Elt Ideal) arg3.view.ty) (X4 : BufTy.Contents (Elt Ideal) arg4.view.ty)
    (P : BufTy.Contents (Elt Ideal) arg5.view.ty → BufTy.Contents (Elt Ideal) arg6.view.ty
      → BufTy.Contents (Elt Ideal) arg7.view.ty → Prop) : sProp 𝕄 :=
  iprop(∃ g5, ∃ g6, ∃ g7, Bufs c arg3 arg4 arg5 arg6 arg7 X3 X4 g5 g6 g7 ∗ ⌜P g5 g6 g7⌝)

/-- The whole scale buffer, loaded. -/
theorem load3 {v : View sig .tc .vmem S1x1 .f32} (f : BufTy.Contents (Elt Ideal) v.ty) :
    View.readAt (Elt Ideal) v (Rect.unit (s := S1x1) ![0, 0] S1x1.size inb_S1x1_S1x1_0_0).toLoadRect f
      = v.read (Elt Ideal) f := View.readAt_full _ _ _

/-- The whole sums buffer, loaded. -/
theorem load7 {v : View sig .tc .vmem S8x1280 .f32} (f : BufTy.Contents (Elt Ideal) v.ty) :
    View.readAt (Elt Ideal) v (Rect.unit (s := S8x1280) ![0, 0] S8x1280.size inb_S8x1280_S8x1280_0_0).toLoadRect f
      = v.read (Elt Ideal) f := View.readAt_full _ _ _

/-- The sums buffer, loaded after it is set to zero. -/
theorem load_zero (v : View sig .tc .vmem S8x1280 .f32) :
    v.readCov (Val := Elt Ideal) [(⟨Rect.unit (s := S8x1280) ![0, 0] S8x1280.size inb_S8x1280_S8x1280_0_0,
        (k0_pay3 (F := Ideal))⟩ : View.Piece (Elt Ideal) S8x1280 .f32)]
      (Rect.unit (s := S8x1280) ![0, 0] S8x1280.size inb_S8x1280_S8x1280_0_0).toLoadRect = k0_pay3 (F := Ideal) :=
  View.readCov_full v inb_S8x1280_S8x1280_0_0 inb_S8x1280_S8x1280_0_0 _ []

/-- The sums after a full window. -/
theorem pay7_eq (a : Vec Ideal S8x1280 .f32) (b : FVec Ideal S8x1280 .f32) : k0_pay7 a b = addf a b := by
  unfold k0_pay7
  dsimp only
  rw [shapeCast_self]

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (X3 : BufTy.Contents (Elt Ideal) arg3.view.ty) (X4 : BufTy.Contents (Elt Ideal) arg4.view.ty)
  (f5 : BufTy.Contents (Elt Ideal) arg5.view.ty) (f6 : BufTy.Contents (Elt Ideal) arg6.view.ty)
  (f7 : BufTy.Contents (Elt Ideal) arg7.view.ty)

/-- A call in phase 0 at window 0. -/
theorem call_first (h1 : cond1 i = 1#1) (h2 : k0_cond2 i = 1#1) (h3 : ¬ k0_cond3 i = 1#1) (h4 : ¬ k0_cond4 i = 1#1) :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4 fun g5 g6 g7 =>
          g5 = f5 ∧ g6 = arg6.view.writes (Elt Ideal) f6 (st_k0_t1 (F := Ideal) 𝒱 c bd i arg3 harg3 arg4 harg4 arg5 harg5 arg6 harg6 arg7 harg7 (arg3.view.read (Elt Ideal) X3) (col0 i) (count0 i) h2 X4 k0_pay4 k0_t1_loop.trips).2 ∧ arg7.view.read (Elt Ideal) g7 = addf (k0_pay3 (F := Ideal)) (st_k0_t1 (F := Ideal) 𝒱 c bd i arg3 harg3 arg4 harg4 arg5 harg5 arg6 harg6 arg7 harg7 (arg3.view.read (Elt Ideal) X3) (col0 i) (count0 i) h2 X4 k0_pay4 k0_t1_loop.trips).1) := by
  rw [cc0__body_eq_skeleton]
  unfold cc0__body_skel Bufs
  iintro ⟨H3, H4, H5, H6, H7⟩
  sl_exec
  sl_step
  iexists _, _, _
  isplitl
  · sl_close
  · ipureintro
    refine ⟨rfl, ?_, ?_⟩
    · sl_open_run
      rw [load3]
    · sl_open_run
      refine (View.read_writes_full _ _ _ _ _).trans ?_
      rw [pay7_eq, load_zero, load3]

/-- A call in phase 0 at a window between the first and the last. -/
theorem call_middle (h1 : ¬ cond1 i = 1#1) (h2 : k0_cond2 i = 1#1) (h3 : ¬ k0_cond3 i = 1#1) (h4 : ¬ k0_cond4 i = 1#1) :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4 fun g5 g6 g7 =>
          g5 = f5 ∧ g6 = arg6.view.writes (Elt Ideal) f6 (st_k0_t1 (F := Ideal) 𝒱 c bd i arg3 harg3 arg4 harg4 arg5 harg5 arg6 harg6 arg7 harg7 (arg3.view.read (Elt Ideal) X3) (col0 i) (count0 i) h2 X4 k0_pay4 k0_t1_loop.trips).2 ∧ arg7.view.read (Elt Ideal) g7 = addf (arg7.view.read (Elt Ideal) f7) (st_k0_t1 (F := Ideal) 𝒱 c bd i arg3 harg3 arg4 harg4 arg5 harg5 arg6 harg6 arg7 harg7 (arg3.view.read (Elt Ideal) X3) (col0 i) (count0 i) h2 X4 k0_pay4 k0_t1_loop.trips).1) := by
  rw [cc0__body_eq_skeleton]
  unfold cc0__body_skel Bufs
  iintro ⟨H3, H4, H5, H6, H7⟩
  sl_exec
  sl_step
  iexists _, _, _
  isplitl
  · sl_close
  · ipureintro
    refine ⟨rfl, ?_, ?_⟩
    · sl_open_run
      rw [load3]
    · sl_open_run
      refine (View.read_writes_full _ _ _ _ _).trans ?_
      rw [pay7_eq, load7, load3]

/-- A call in phase 0 at the last window. -/
theorem call_last (h1 : ¬ cond1 i = 1#1) (h2 : ¬ k0_cond2 i = 1#1) (h3 : k0_cond3 i = 1#1) (h4 : ¬ k0_cond4 i = 1#1) :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4 fun g5 g6 g7 =>
          g5 = f5
            ∧ g6 = arg6.view.writes (Elt Ideal) f6
              (⟨Rect.unit (s := S8x1000000) (k0_off6 i) S8x320.size (k0_off6_inb i h3), extractStridedSlice S8x320 ![0, 0] (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) slices_S8x1280_o0_0_S8x320⟩
                :: ⟨Rect.unit (s := S8x1000000) (k0_off5 i) S8x1280.size (k0_off5_inb i h3), (expo (k0_pay1 (arg3.view.read (Elt Ideal) X3)) (View.readAt (Elt Ideal) arg4.view (Rect.unit (s := S8x128000) ![0, 102400] S8x1280.size inb_S8x128000_S8x1280_0_102400).toLoadRect X4) (Scalar.addi (count0 i) 102400#32))⟩
                :: (st_k0_t2 (F := Ideal) 𝒱 c bd i arg3 harg3 arg4 harg4 arg5 harg5 arg6 harg6 arg7 harg7 (k0_pay1 (arg3.view.read (Elt Ideal) X3)) k0_pay2 (col0 i) (count0 i) h3 X4 k0_pay437 k0_t2_loop.trips).2)
            ∧ arg7.view.read (Elt Ideal) g7 = addf (arg7.view.read (Elt Ideal) f7) (addf (addf (st_k0_t2 (F := Ideal) 𝒱 c bd i arg3 harg3 arg4 harg4 arg5 harg5 arg6 harg6 arg7 harg7 (k0_pay1 (arg3.view.read (Elt Ideal) X3)) k0_pay2 (col0 i) (count0 i) h3 X4 k0_pay437 k0_t2_loop.trips).1 (expo (k0_pay1 (arg3.view.read (Elt Ideal) X3)) (View.readAt (Elt Ideal) arg4.view (Rect.unit (s := S8x128000) ![0, 102400] S8x1280.size inb_S8x128000_S8x1280_0_102400).toLoadRect X4) (Scalar.addi (count0 i) 102400#32))) (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)))) := by
  rw [cc0__body_eq_skeleton]
  unfold cc0__body_skel Bufs
  iintro ⟨H3, H4, H5, H6, H7⟩
  sl_exec
  sl_step
  iexists _, _, _
  isplitl
  · sl_close
  · ipureintro
    have eT : k0_pay523 (k0_pay1 (arg3.view.read (Elt Ideal) X3)) (call_last.sl.r_7 arg4 X4)
        (call_last.sl.v384 i) (call_last.sl.v386 i) call_last.sl.v387 = (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) := by
      rfl
    refine ⟨rfl, ?_, ?_⟩
    · rw [load3]
      unfold k0_pay524 k0_pay477
      dsimp only
      rw [shapeCast_self, shapeCast_self, eT]
      rfl
    · refine (View.read_writes_full _ _ _ _ _).trans ?_
      rw [load3]
      unfold k0_pay525
      dsimp only
      rw [shapeCast_self]
      refine congrArg₂ addf (load7 _) (congrArg₂ addf ?_ eT)
      unfold call_last.sl.r_6
      rw [load3]
      refine congrArg₂ addf ?_ ?_
      · unfold call_last.sl.r
        rw [load3]
        rfl
      · rfl

/-- A call in phase 1 at a window before the last. -/
theorem call_scale (h1 : ¬ cond1 i = 1#1) (h2 : ¬ k0_cond2 i = 1#1) (h3 : ¬ k0_cond3 i = 1#1) (h4 : k0_cond4 i = 1#1) (h5 : ¬ k0_cond5 i = 1#1) :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4 fun g5 g6 g7 =>
          g6 = f6 ∧ g7 = f7 ∧ g5 = arg5.view.writes (Elt Ideal) f5 (pb_k0_t3 (F := Ideal) 𝒱 c bd i arg3 harg3 arg4 harg4 arg5 harg5 arg6 harg6 arg7 harg7 (BitVec.ofNat 32 (i 2).val) (col0 i) h4 (arg7.view.read (Elt Ideal) f7) f6 (k0_t3_loop i).trips)) := by
  rw [cc0__body_eq_skeleton]
  unfold cc0__body_skel Bufs
  iintro ⟨H3, H4, H5, H6, H7⟩
  sl_exec
  sl_step
  iexists _, _, _
  isplitl
  · sl_close
  · ipureintro
    refine ⟨rfl, rfl, ?_⟩
    sl_open_run
    rw [load7]

/-- A call in phase 1 at the last window. -/
theorem call_scale_last (h1 : ¬ cond1 i = 1#1) (h2 : ¬ k0_cond2 i = 1#1) (h3 : ¬ k0_cond3 i = 1#1) (h4 : k0_cond4 i = 1#1) (h5 : k0_cond5 i = 1#1) :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4 fun g5 g6 g7 =>
          g6 = f6 ∧ g7 = f7 ∧ g5 = arg5.view.writes (Elt Ideal) f5
            (⟨Rect.unit (s := S8x128000) (k0_off12 i) S8x1600.size (k0_off12_inb i h4 h5), k0_pay8 (k0_pay526 (arg7.view.read (Elt Ideal) f7))
                (View.readAt (Elt Ideal) arg6.view (Rect.unit (s := S8x1000000) (k0_off11 i) S8x1600.size (k0_off11_inb i h4 h5)).toLoadRect f6)⟩
              :: (pb_k0_t3 (F := Ideal) 𝒱 c bd i arg3 harg3 arg4 harg4 arg5 harg5 arg6 harg6 arg7 harg7 (BitVec.ofNat 32 (i 2).val) (col0 i) h4 (arg7.view.read (Elt Ideal) f7) f6 (k0_t3_loop i).trips))) := by
  rw [cc0__body_eq_skeleton]
  unfold cc0__body_skel Bufs
  iintro ⟨H3, H4, H5, H6, H7⟩
  sl_exec
  sl_step
  iexists _, _, _
  isplitl
  · sl_close
  · ipureintro
    refine ⟨rfl, rfl, ?_⟩
    sl_open_run
    rw [load7]

end
end Cert.Proof.Value
end
-- ==== Proof.Scale.lean ====
/- The phase-1 loop, trip by trip: the result block fills with exponentials times the row's inverse sum. -/
module

public import proofs.«01_k».proof.Proof.Trips

@[expose] public section

set_option maxRecDepth 16384

noncomputable section

namespace Cert.Proof.Value

open Idealize.ShloMosaic Idealize.ShloMosaic.TcCoe Idealize.ShloMosaic.Tactic
open Cert.KernelIdeal Cert.KernelIdeal.Gen

/-- The inverse of a row's sum, from the lane sums `a`. -/
def inv (a : S8x1280.Idx → EReal) (r : Fin 8) : EReal := Ideal.div 1 (∑ l : Fin 1280, a (ix2 r l))

/-- The inverse the kernel computes, read at its row. -/
theorem pay526_apply (a : Vec Ideal S8x1280 .f32) (r : Fin 8) : k0_pay526 (F := Ideal) a (ix2 r 0) = inv a r := by
  unfold k0_pay526 inv
  pointwise

/-- A scaled strip read at an index: the exponential times the inverse of the row. -/
theorem pay527_apply (a : Vec Ideal S8x1280 .f32) (x : Vec Ideal S8x3200 .f32) (r : Fin 8) (w : Fin 3200) :
    k0_pay527 (F := Ideal) a x (ix2 r w) = x (ix2 r w) * inv a r := by
  rw [← pay526_apply]
  unfold k0_pay527
  pointwise

/-- The last scaled strip read at an index. -/
theorem pay8_apply (a : FVec Ideal S8x1 .f32) (x : Vec Ideal S8x1600 .f32) (r : Fin 8) (w : Fin 1600) :
    k0_pay8 (F := Ideal) a x (ix2 r w) = x (ix2 r w) * a (ix2 r 0) := by
  unfold k0_pay8
  pointwise

/-- A block of whole rows of the scratch array, loaded and read at a row and a column. -/
theorem load6 {n : ℕ} {v : View sig .tc .vmem S8x1000000 .f32} (X : BufTy.Contents (Elt Ideal) v.ty) (w₀ : ℕ)
    {off : Fin 2 → ℕ} (hoff : off = ![0, w₀]) (inb : ∀ a, off a + (![8, n] : Fin 2 → ℕ) a ≤ S8x1000000.size a)
    (r : Fin 8) (w : Fin n) :
    View.readAt (Elt Ideal) v (Rect.unit (s := S8x1000000) off ![8, n] inb).toLoadRect X (ix2 r w)
      = at2 (v.read (Elt Ideal) X) r.val (w₀ + w.val) := by
  subst hoff
  have hw : w₀ + n ≤ 1000000 := inb 1
  unfold at2
  rw [dif_pos ⟨r.isLt, by omega⟩, View.readAt_apply]
  congr 1
  funext a
  apply Fin.ext
  revert a
  exact Fin.forall_fin_two.mpr ⟨by show 0 + 1 * r.val = r.val; omega, by
    show w₀ + 1 * w.val = w₀ + w.val; omega⟩

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (arg2 v8 : BitVec 32) (v30 : Vec Ideal S8x1280 .f32)
  (f5 : BufTy.Contents (Elt Ideal) arg5.view.ty) (X : BufTy.Contents (Elt Ideal) arg6.view.ty)

/-- What one trip writes into the result block. -/
theorem trip3_pieces (h : k0_cond4 i = 1#1) (k : Fin (k0_t3_loop i).trips) :
    tripL_k0_t3 (F := Ideal) 𝒱 c bd i arg3 harg3 arg4 harg4 arg5 harg5 arg6 harg6 arg7 harg7 arg2 v8 h v30 X k
      = [⟨Rect.unit (s := S8x128000) (k0_off8 i k) S8x3200.size (k0_off8_inb i k h), k0_pay527 v30
          (View.readAt (Elt Ideal) arg6.view (Rect.unit (s := S8x1000000) (k0_off7 i k) S8x3200.size (k0_off7_inb i k h)).toLoadRect X)⟩] := by
  unfold tripL_k0_t3 trip_k0_t3
  rfl

/-- Before trip `n`: the first `3200 n` columns of the result block are filled. -/
theorem trips3 (h : k0_cond4 i = 1#1) :
    ∀ n, n ≤ (k0_t3_loop i).trips →
      Filled (Val := Elt Ideal) arg5.view f5 (arg5.view.writes (Elt Ideal) f5 (pb_k0_t3 (F := Ideal) 𝒱 c bd i arg3 harg3 arg4
          harg4 arg5 harg5 arg6 harg6 arg7 harg7 arg2 v8 h v30 X n)) 0 (3200 * n)
        (fun r w => at2 (arg6.view.read (Elt Ideal) X) r (128000 * (i 2).val + w) * at2 (m := 8) (n := 1) (fun j => inv v30 (j 0)) r 0) := by
  intro n
  induction n with
  | zero => intro _; exact Filled.nil _ _ _ _
  | succ n ih =>
    intro hn'
    have hn : n < (k0_t3_loop i).trips := hn'
    have key := pb_k0_t3_succ (F := Ideal) 𝒱 c bd i arg3 harg3 arg4 harg4 arg5 harg5 arg6 harg6 arg7 harg7 arg2 v8 h v30 X ⟨n, hn⟩
    dsimp only at key
    rw [key, trip3_pieces]
    dsimp only [List.cons_append, List.nil_append]
    refine (ih hn.le).cons (by omega) (3200 * (n + 1)) (by omega) (n := 3200) (k0_off8_eq i ⟨n, hn⟩)
      (k0_off8_inb i ⟨n, hn⟩ h) _ fun r l => ?_
    rw [pay527_apply]
    refine congrArg₂ (· * ·) ((load6 X _ (k0_off7_eq i ⟨n, hn⟩) _ r l).trans (by congr 1; dsimp only; omega)) ?_
    exact (at2_fin (m := 8) (n := 1) (fun j : (⟨2, ![8, 1]⟩ : Shape).Idx => inv v30 (j 0)) r 0).symm

end
end Cert.Proof.Value
end
-- ==== Proof.Phase.lean ====
/- What one call of the kernel's body does to the scratch buffers and the result block, in terms of the whole arrays. -/
module

public import proofs.«01_k».proof.Proof.Body
public import proofs.«01_k».proof.Proof.Scale

@[expose] public section

set_option maxRecDepth 16384

noncomputable section

namespace Cert.Proof.Value

open Idealize.ShloMosaic Idealize.ShloMosaic.TcCoe Idealize.ShloMosaic.Tactic
open Cert.KernelIdeal Cert.KernelIdeal.Gen
open Cert.Proof.IdealFrame (cond1)

/-- The exponential at row `R` and column `c` of the whole array `x` under the scale `s`; zero past the last column. -/
def E (s : EReal) (x : S32x1000000.Idx → EReal) (R c : ℕ) : EReal :=
  if c < 1000000 then cell (F := Ideal) s (at2 x R c) (BitVec.ofNat 32 (1000000 * R + c + 42)) else 0

/-- The window `x4` of point `i` holds its part of the whole array `x`: eight rows, the columns inside the array. -/
def Holds (i : grid0.Coords) (x : S32x1000000.Idx → EReal) (x4 : S8x128000.Idx → EReal) : Prop :=
  ∀ r w, r < 8 → w < 128000 → 128000 * (i 2).val + w < 1000000 →
    at2 x4 r w = at2 x (8 * (i 0).val + r) (128000 * (i 2).val + w)

/-- The counter of a window's row and column is the counter of the array's. -/
theorem counter_eq (i : grid0.Coords) (r w : ℕ) :
    counter (count0 i) r w
      = BitVec.ofNat 32 (1000000 * (8 * (i 0).val + r) + (128000 * (i 2).val + w) + 42) := by
  unfold counter count0 col0 Scalar.addi Scalar.muli IntOp.addi IntOp.muli
  rw [← BitVec.ofNat_mul, ← BitVec.ofNat_mul, ← BitVec.ofNat_add, ← BitVec.ofNat_add, ← BitVec.ofNat_add]
  congr 1
  ring

/-- A window's exponentials are the array's. -/
theorem wexp_eq {i : grid0.Coords} {x : S32x1000000.Idx → EReal} {x4 : S8x128000.Idx → EReal} (hx : Holds i x x4)
    (s : EReal) {r w : ℕ} (hr : r < 8) (hw : w < 128000) (h : 128000 * (i 2).val + w < 1000000) :
    wexp s x4 (count0 i) r w = E s x (8 * (i 0).val + r) (128000 * (i 2).val + w) := by
  unfold wexp E
  rw [if_pos h, hx r w hr hw h, counter_eq]

/-- The values a range is filled with may be replaced by equal ones. -/
theorem Filled.congr {sig : RefSig} {κ : Kind} {sp : Space} {e : EltTy} {Val : EltTy → Type} {N : ℕ}
    {v : View sig κ sp (⟨2, ![8, N]⟩ : Shape) e} {f g : v.ty.Contents Val} {lo hi : ℕ} {V V' : ℕ → ℕ → Val e}
    (h : Filled v f g lo hi V) (hV : ∀ r c, r < 8 → lo ≤ c → c < hi → V r c = V' r c) : Filled v f g lo hi V' :=
  fun r c => by
    rw [h r c]
    by_cases hc : lo ≤ c.val ∧ c.val < hi
    · rw [if_pos hc, if_pos hc, hV _ _ r.isLt hc.1 hc.2]
    · rw [if_neg hc, if_neg hc]

/-- The last chunk's masked exponentials, read at a row and a lane. -/
theorem tailE_apply (s : FVec Ideal S1x1 .f32) (x : Vec Ideal S8x1280 .f32) (b : BitVec 32) (r : Fin 8) (l : Fin 1280) :
    tailE s x b (ix2 r l) = if l.val < 320 then expo s x b (ix2 r l) else 0 := by
  have hl : ∀ l : Fin 1280, IntOp.cmpi .slt (BitVec.ofNat 32 l.val) 320#32 = if l.val < 320 then 1#1 else 0#1 := by
    decide +kernel
  unfold tailE
  pointwise
  rw [hl]
  split <;> rfl

/-- What a phase-0 call leaves. -/
def Gathers (i : grid0.Coords) (s : EReal) (x : S32x1000000.Idx → EReal)
    {v6 : View sig .tc .vmem S8x1000000 .f32} {v7 : View sig .tc .vmem S8x1280 .f32}
    (f6 g6 : BufTy.Contents (Elt Ideal) v6.ty) (f7 g7 : BufTy.Contents (Elt Ideal) v7.ty) : Prop :=
  Filled (Val := Elt Ideal) v6 f6 g6 (128000 * (i 2).val) (min (128000 * (i 2).val + 128000) 1000000)
      (fun r c => E s x (8 * (i 0).val + r) c)
    ∧ ∀ (r : Fin 8) (l : Fin 1280), v7.read (Elt Ideal) g7 (ix2 r l)
        = (if (i 2).val = 0 then 0 else v7.read (Elt Ideal) f7 (ix2 r l))
          + ∑ q ∈ Finset.range 100, E s x (8 * (i 0).val + r.val) (128000 * (i 2).val + (1280 * q + l.val))

/-- What a phase-1 call leaves in the result block. -/
def Scales (i : grid0.Coords) {v5 : View sig .tc .vmem S8x128000 .f32} {v6 : View sig .tc .vmem S8x1000000 .f32}
    {v7 : View sig .tc .vmem S8x1280 .f32} (g5 : BufTy.Contents (Elt Ideal) v5.ty)
    (f6 : BufTy.Contents (Elt Ideal) v6.ty) (f7 : BufTy.Contents (Elt Ideal) v7.ty) : Prop :=
  ∀ (r : Fin 8) (w : Fin 128000), 128000 * (i 2).val + w.val < 1000000 →
    v5.read (Elt Ideal) g5 (ix2 r w)
      = at2 (v6.read (Elt Ideal) f6) r.val (128000 * (i 2).val + w.val) * inv (v7.read (Elt Ideal) f7) r

/-- The number of trips of each loop. -/
theorem trips1_eq : k0_t1_loop.trips = 20 := by decide +kernel
/-- The second loop makes sixteen trips. -/
theorem trips2_eq : k0_t2_loop.trips = 16 := by decide +kernel
/-- The third loop makes 40 trips, in the last window 32. -/
theorem trips3_eq : ∀ i : grid0.Coords, (k0_t3_loop i).trips = if (i 2).val = 7 then 32 else 40 := by decide +kernel

/-- The window a branch runs at. -/
theorem at_first : ∀ i : grid0.Coords, cond1 i = 1#1 → (i 2).val = 0 := by decide +kernel
/-- The branch that adds to the accumulator does not run at window 0. -/
theorem at_middle : ∀ i : grid0.Coords, ¬ cond1 i = 1#1 → k0_cond2 i = 1#1 → (i 2).val ≠ 0 := by decide +kernel
/-- The branch of a full window runs below window 7. -/
theorem at_full : ∀ i : grid0.Coords, k0_cond2 i = 1#1 → (i 2).val < 7 := by decide +kernel
/-- The branch of the cut window runs at window 7. -/
theorem at_last : ∀ i : grid0.Coords, k0_cond3 i = 1#1 → (i 2).val = 7 := by decide +kernel
/-- The branch that scales a full window runs below window 7. -/
theorem at_scale : ∀ i : grid0.Coords, k0_cond4 i = 1#1 → ¬ k0_cond5 i = 1#1 → (i 2).val < 7 := by decide +kernel
/-- The branch that scales the cut window runs at window 7. -/
theorem at_scale_last : ∀ i : grid0.Coords, k0_cond5 i = 1#1 → (i 2).val = 7 := by decide +kernel

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (X3 : BufTy.Contents (Elt Ideal) arg3.view.ty) (X4 : BufTy.Contents (Elt Ideal) arg4.view.ty)
  (f5 : BufTy.Contents (Elt Ideal) arg5.view.ty)
  (f6 g6 : BufTy.Contents (Elt Ideal) arg6.view.ty)
  (f7 g7 : BufTy.Contents (Elt Ideal) arg7.view.ty)
  (x : S32x1000000.Idx → EReal) (hx : Holds i x (arg4.view.read (Elt Ideal) X4))

/-- The scale: the exponential of the temperature. -/
theorem scale_apply (t : Vec Ideal S1x1 .f32) : k0_pay1 (F := Ideal) t (ix2 0 0) = Ideal.exp (t (ix2 0 0)) := by
  unfold k0_pay1
  pointwise

include hx in
/-- A full window in phase 0. -/
theorem gathers_full (h2 : k0_cond2 i = 1#1) (a : FVec Ideal S8x1280 .f32)
    (ha : ∀ (r : Fin 8) (l : Fin 1280), a (ix2 r l) = if (i 2).val = 0 then 0 else arg7.view.read (Elt Ideal) f7 (ix2 r l))
    (h6 : g6 = arg6.view.writes (Elt Ideal) f6 (st_k0_t1 (F := Ideal) 𝒱 c bd i arg3 harg3 arg4 harg4 arg5 harg5 arg6 harg6 arg7 harg7 (arg3.view.read (Elt Ideal) X3) (col0 i) (count0 i) h2 X4 k0_pay4 k0_t1_loop.trips).2)
    (h7 : arg7.view.read (Elt Ideal) g7 = addf a (st_k0_t1 (F := Ideal) 𝒱 c bd i arg3 harg3 arg4 harg4 arg5 harg5 arg6 harg6 arg7 harg7 (arg3.view.read (Elt Ideal) X3) (col0 i) (count0 i) h2 X4 k0_pay4 k0_t1_loop.trips).1) :
    Gathers i (Ideal.exp (arg3.view.read (Elt Ideal) X3 (ix2 0 0))) x f6 g6 f7 g7 := by
  have hi := at_full i h2
  set s := Ideal.exp (arg3.view.read (Elt Ideal) X3 (ix2 0 0)) with hs
  obtain ⟨F, A⟩ := trips1 𝒱 c bd i arg3 harg3 arg4 harg4 arg5 harg5 arg6 harg6 arg7 harg7
    (arg3.view.read (Elt Ideal) X3) (col0 i) (count0 i) X4 f6 k0_pay4 h2
    (fun r c => wexp s (arg4.view.read (Elt Ideal) X4) (count0 i) r (c - 128000 * (i 2).val))
    (fun r w => by rw [Nat.add_sub_cancel_left, scale_apply]) k0_t1_loop.trips le_rfl
  rw [← h6] at F
  refine ⟨?_, fun r l => ?_⟩
  · rw [trips1_eq] at F
    rw [min_eq_left (by omega)]
    refine F.congr fun r c hr hlo hhi => ?_
    have h := wexp_eq hx s (w := c - 128000 * (i 2).val) hr (by omega) (by omega)
    rw [Nat.add_sub_cancel' hlo] at h
    exact h
  · rw [h7]
    refine congrArg₂ (· + ·) (ha r l) ((A r l).trans ?_)
    have z : k0_pay4 (F := Ideal) (ix2 r l) = 0 := by
      unfold k0_pay4
      pointwise
    rw [z, zero_add, trips1_eq]
    refine Finset.sum_congr rfl fun q hq => ?_
    have hq' := Finset.mem_range.mp hq
    rw [Nat.add_sub_cancel_left]
    exact wexp_eq hx s r.isLt (by omega) (by omega)

include hx in
/-- The last window in phase 0: sixteen trips, one more full chunk, and one of 320 lanes. -/
theorem gathers_last (h3 : k0_cond3 i = 1#1)
    (h6 : g6 = arg6.view.writes (Elt Ideal) f6
              (⟨Rect.unit (s := S8x1000000) (k0_off6 i) S8x320.size (k0_off6_inb i h3), extractStridedSlice S8x320 ![0, 0] (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) slices_S8x1280_o0_0_S8x320⟩
                :: ⟨Rect.unit (s := S8x1000000) (k0_off5 i) S8x1280.size (k0_off5_inb i h3), (expo (k0_pay1 (arg3.view.read (Elt Ideal) X3)) (View.readAt (Elt Ideal) arg4.view (Rect.unit (s := S8x128000) ![0, 102400] S8x1280.size inb_S8x128000_S8x1280_0_102400).toLoadRect X4) (Scalar.addi (count0 i) 102400#32))⟩
                :: (st_k0_t2 (F := Ideal) 𝒱 c bd i arg3 harg3 arg4 harg4 arg5 harg5 arg6 harg6 arg7 harg7 (k0_pay1 (arg3.view.read (Elt Ideal) X3)) k0_pay2 (col0 i) (count0 i) h3 X4 k0_pay437 k0_t2_loop.trips).2))
    (h7 : arg7.view.read (Elt Ideal) g7 = addf (arg7.view.read (Elt Ideal) f7) (addf (addf (st_k0_t2 (F := Ideal) 𝒱 c bd i arg3 harg3 arg4 harg4 arg5 harg5 arg6 harg6 arg7 harg7 (k0_pay1 (arg3.view.read (Elt Ideal) X3)) k0_pay2 (col0 i) (count0 i) h3 X4 k0_pay437 k0_t2_loop.trips).1 (expo (k0_pay1 (arg3.view.read (Elt Ideal) X3)) (View.readAt (Elt Ideal) arg4.view (Rect.unit (s := S8x128000) ![0, 102400] S8x1280.size inb_S8x128000_S8x1280_0_102400).toLoadRect X4) (Scalar.addi (count0 i) 102400#32))) (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)))) :
    Gathers i (Ideal.exp (arg3.view.read (Elt Ideal) X3 (ix2 0 0))) x f6 g6 f7 g7 := by
  have hi := at_last i h3
  set s := Ideal.exp (arg3.view.read (Elt Ideal) X3 (ix2 0 0)) with hs
  have hV : ∀ r w, (fun r c => wexp s (arg4.view.read (Elt Ideal) X4) (count0 i) r (c - 128000 * (i 2).val)) r
      (128000 * (i 2).val + w) = wexp (k0_pay1 (F := Ideal) (arg3.view.read (Elt Ideal) X3) (ix2 0 0))
        (arg4.view.read (Elt Ideal) X4) (count0 i) r w := fun r w => by
    dsimp only
    rw [Nat.add_sub_cancel_left, scale_apply]
  obtain ⟨F, A⟩ := trips2 𝒱 c bd i arg3 harg3 arg4 harg4 arg5 harg5 arg6 harg6 arg7 harg7
    (col0 i) (count0 i) X4 f6 k0_pay437 (k0_pay1 (arg3.view.read (Elt Ideal) X3)) h3
    (fun r c => wexp s (arg4.view.read (Elt Ideal) X4) (count0 i) r (c - 128000 * (i 2).val)) hV k0_t2_loop.trips le_rfl
  have c81 := chunk_apply X4 (k0_pay1 (arg3.view.read (Elt Ideal) X3)) (count0 i) _ 102400 rfl rfl
    inb_S8x128000_S8x1280_0_102400
  have c82 := chunk_apply X4 (k0_pay1 (arg3.view.read (Elt Ideal) X3)) (count0 i) _ 103680 rfl rfl
    inb_S8x128000_S8x1280_0_103680
  rw [trips2_eq] at F A
  rw [trips2_eq] at h6 h7
  have F1 := F.cons (by omega) (128000 * (i 2).val + 103680) (by omega) (n := 1280)
    ((k0_off5_eq i).trans (by simp)) (k0_off5_inb i h3) _
    (fun r l => (c81 r l).trans ((hV r.val _).symm.trans (by congr 1; omega)))
  have F2 := F1.cons (by omega) (128000 * (i 2).val + 104000) (by omega) (n := 320)
    (k0_off6_eq i) (k0_off6_inb i h3) (extractStridedSlice S8x320 ![0, 0] (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) slices_S8x1280_o0_0_S8x320)
    (fun r l => by
      have e : extractStridedSlice S8x320 ![0, 0] (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) slices_S8x1280_o0_0_S8x320 (ix2 r l)
          = (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) (ix2 r ⟨l.val, by omega⟩) := by
        generalize (tailE (k0_pay1 (arg3.view.read (Elt Ideal) X3)) (View.readAt (Elt Ideal) arg4.view (Rect.unit (s := S8x128000) ![0, 103680] S8x1280.size inb_S8x128000_S8x1280_0_103680).toLoadRect X4) (Scalar.addi (count0 i) 103680#32)) = y
        pointwise
      rw [e, tailE_apply, if_pos l.isLt]
      exact (c82 r ⟨l.val, by omega⟩).trans ((hV r.val _).symm.trans (by congr 1; dsimp only; omega)))
  refine ⟨?_, fun r l => ?_⟩
  · rw [h6]
    rw [min_eq_right (by omega)]
    have e : 128000 * (i 2).val + 104000 = 1000000 := by omega
    rw [e] at F2
    refine F2.congr fun r c hr hlo hhi => ?_
    have h := wexp_eq hx s (w := c - 128000 * (i 2).val) hr (by omega) (by omega)
    rw [Nat.add_sub_cancel' hlo] at h
    exact h
  · rw [h7, if_neg (by omega)]
    refine congrArg₂ (· + ·) rfl ?_
    have z : k0_pay437 (F := Ideal) (ix2 r l) = 0 := by
      unfold k0_pay437
      pointwise
    have t := A r l
    rw [z, zero_add] at t
    have G : ∀ q, q < 81 → E s x (8 * (i 0).val + r.val) (128000 * (i 2).val + (1280 * q + l.val))
        = wexp s (arg4.view.read (Elt Ideal) X4) (count0 i) r.val (1280 * q + l.val) := fun q hq =>
      (wexp_eq hx s r.isLt (by omega) (by omega)).symm
    have Z : ∑ q ∈ Finset.range 18, E s x (8 * (i 0).val + r.val) (128000 * (i 2).val + (1280 * (82 + q) + l.val)) = 0 :=
      Finset.sum_eq_zero fun q _ => by unfold E; rw [if_neg (by omega)]
    rw [show (100 : ℕ) = 82 + 18 from rfl, Finset.sum_range_add, Z, add_zero, Finset.sum_range_succ,
      show (81 : ℕ) = 80 + 1 from rfl, Finset.sum_range_succ]
    refine congrArg₂ (· + ·) (congrArg₂ (· + ·) (t.trans (Finset.sum_congr rfl fun q hq => ?_)) ?_) ?_
    · have hq' := Finset.mem_range.mp hq
      dsimp only
      rw [Nat.add_sub_cancel_left, G q (by omega)]
    · rw [G 80 (by omega)]
      refine (c81 r l).trans ?_
      rw [scale_apply]
    · rw [tailE_apply]
      by_cases hl : l.val < 320
      · rw [if_pos hl, c82 r l, scale_apply, ← wexp_eq hx s r.isLt (by omega) (by omega)]
      · rw [if_neg hl]
        unfold E
        rw [if_neg (by omega)]

/-- A window before the last in phase 1. -/
theorem scales_full (h4 : k0_cond4 i = 1#1) (h5 : ¬ k0_cond5 i = 1#1) (g5 : BufTy.Contents (Elt Ideal) arg5.view.ty)
    (h : g5 = arg5.view.writes (Elt Ideal) f5 (pb_k0_t3 (F := Ideal) 𝒱 c bd i arg3 harg3 arg4 harg4 arg5 harg5 arg6 harg6 arg7 harg7 (BitVec.ofNat 32 (i 2).val) (col0 i) h4 (arg7.view.read (Elt Ideal) f7) f6 (k0_t3_loop i).trips)) : Scales i g5 f6 f7 := fun r w hw => by
  have hi := at_scale i h4 h5
  have F := trips3 𝒱 c bd i arg3 harg3 arg4 harg4 arg5 harg5 arg6 harg6 arg7 harg7 (BitVec.ofNat 32 (i 2).val) (col0 i)
    (arg7.view.read (Elt Ideal) f7) f5 f6 h4 (k0_t3_loop i).trips le_rfl
  rw [← h] at F
  rw [F r w, if_pos (by rw [trips3_eq, if_neg (by omega)]; omega)]
  exact congrArg₂ (· * ·) rfl (at2_fin (m := 8) (n := 1) (fun j => inv (arg7.view.read (Elt Ideal) f7) (j 0)) r 0)

/-- The last window in phase 1: thirty-two trips and 1600 columns more. -/
theorem scales_last (h4 : k0_cond4 i = 1#1) (h5 : k0_cond5 i = 1#1) (g5 : BufTy.Contents (Elt Ideal) arg5.view.ty)
    (h : g5 = arg5.view.writes (Elt Ideal) f5
            (⟨Rect.unit (s := S8x128000) (k0_off12 i) S8x1600.size (k0_off12_inb i h4 h5), k0_pay8 (k0_pay526 (arg7.view.read (Elt Ideal) f7))
                (View.readAt (Elt Ideal) arg6.view (Rect.unit (s := S8x1000000) (k0_off11 i) S8x1600.size (k0_off11_inb i h4 h5)).toLoadRect f6)⟩
              :: (pb_k0_t3 (F := Ideal) 𝒱 c bd i arg3 harg3 arg4 harg4 arg5 harg5 arg6 harg6 arg7 harg7 (BitVec.ofNat 32 (i 2).val) (col0 i) h4 (arg7.view.read (Elt Ideal) f7) f6 (k0_t3_loop i).trips))) : Scales i g5 f6 f7 := fun r w hw => by
  have hi := at_scale_last i h5
  have F := trips3 𝒱 c bd i arg3 harg3 arg4 harg4 arg5 harg5 arg6 harg6 arg7 harg7 (BitVec.ofNat 32 (i 2).val) (col0 i)
    (arg7.view.read (Elt Ideal) f7) f5 f6 h4 (k0_t3_loop i).trips le_rfl
  have ht : 3200 * (k0_t3_loop i).trips = 102400 := by rw [trips3_eq, if_pos hi]
  rw [ht] at F
  have F1 := F.cons (by omega) 104000 (by omega) (n := 1600) ((k0_off12_eq i).trans (by rw [if_pos hi]))
    (k0_off12_inb i h4 h5) (k0_pay8 (k0_pay526 (arg7.view.read (Elt Ideal) f7))
                (View.readAt (Elt Ideal) arg6.view (Rect.unit (s := S8x1000000) (k0_off11 i) S8x1600.size (k0_off11_inb i h4 h5)).toLoadRect f6))
    (fun r l => by
      rw [pay8_apply, pay526_apply]
      refine congrArg₂ (· * ·) ((load6 f6 (128000 * (i 2).val + 102400) ((k0_off11_eq i).trans (by rw [if_pos hi])) _ r l).trans (by rw [Nat.add_assoc])) ?_
      exact (at2_fin (m := 8) (n := 1) (fun j => inv (arg7.view.read (Elt Ideal) f7) (j 0)) r 0).symm)
  rw [← h] at F1
  rw [F1 r w, if_pos (by omega)]
  exact congrArg₂ (· * ·) rfl (at2_fin (m := 8) (n := 1) (fun j => inv (arg7.view.read (Elt Ideal) f7) (j 0)) r 0)

end
end Cert.Proof.Value
end
-- ==== Proof.Call.lean ====
/- One call of the kernel's body at any grid point, with what it leaves. -/
module

public import proofs.«01_k».proof.Proof.Phase

@[expose] public section

set_option maxRecDepth 16384

noncomputable section

namespace Cert.Proof.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.IdealFrame (cond1 branches)

local notation "𝕄" => MT nD τ sig Unit (Elt Ideal) ℕ (UR sig nD τ) ℕ

/-- What a call leaves: in phase 0 it gathers a window, in phase 1 it scales one. -/
def Left (i : grid0.Coords) (s : EReal) (x : S32x1000000.Idx → EReal) {v5 : View sig .tc .vmem S8x128000 .f32}
    {v6 : View sig .tc .vmem S8x1000000 .f32} {v7 : View sig .tc .vmem S8x1280 .f32}
    (f6 : BufTy.Contents (Elt Ideal) v6.ty) (f7 : BufTy.Contents (Elt Ideal) v7.ty)
    (g5 : BufTy.Contents (Elt Ideal) v5.ty) (g6 : BufTy.Contents (Elt Ideal) v6.ty)
    (g7 : BufTy.Contents (Elt Ideal) v7.ty) : Prop :=
  ((i 1).val = 0 → Gathers i s x f6 g6 f7 g7) ∧ ((i 1).val = 1 → g6 = f6 ∧ g7 = f7 ∧ Scales i g5 f6 f7)

/-- The phase a branch runs in. -/
theorem phase_full : ∀ i : grid0.Coords, k0_cond2 i = 1#1 → (i 1).val = 0 := by decide +kernel
/-- The branch of the last window in phase 0 runs in phase 0. -/
theorem phase_last : ∀ i : grid0.Coords, k0_cond3 i = 1#1 → (i 1).val = 0 := by decide +kernel
/-- The branches that scale run in phase 1. -/
theorem phase_scale : ∀ i : grid0.Coords, k0_cond4 i = 1#1 → (i 1).val = 1 := by decide +kernel

/-- What a call leaves may be weakened. -/
theorem After.mono {c : Dev nD} {arg3 : Memref sig .tc .vmem S1x1 .f32} {arg4 arg5 : Memref sig .tc .vmem S8x128000 .f32}
    {arg6 : Memref sig .tc .vmem S8x1000000 .f32} {arg7 : Memref sig .tc .vmem S8x1280 .f32}
    {X3 : BufTy.Contents (Elt Ideal) arg3.view.ty} {X4 : BufTy.Contents (Elt Ideal) arg4.view.ty}
    {P Q : BufTy.Contents (Elt Ideal) arg5.view.ty → BufTy.Contents (Elt Ideal) arg6.view.ty
      → BufTy.Contents (Elt Ideal) arg7.view.ty → Prop} (h : ∀ a b d, P a b d → Q a b d) :
    After c arg3 arg4 arg5 arg6 arg7 X3 X4 P ⊢ After c arg3 arg4 arg5 arg6 arg7 X3 X4 Q := by
  unfold After
  iintro ⟨%g5, %g6, %g7, H, %hP⟩
  iexists g5, g6, g7
  isplitl
  · iexact H
  · ipureintro; exact h _ _ _ hP

section
variable (𝒱 : Variants) (c : Dev nD) (bd : Option 𝒱.V) (i : grid0.Coords)
  (arg3 : Memref sig .tc .vmem S1x1 .f32) (harg3 : arg3.IsWhole)
  (arg4 : Memref sig .tc .vmem S8x128000 .f32) (harg4 : arg4.IsWhole)
  (arg5 : Memref sig .tc .vmem S8x128000 .f32) (harg5 : arg5.IsWhole)
  (arg6 : Memref sig .tc .vmem S8x1000000 .f32) (harg6 : arg6.IsWhole)
  (arg7 : Memref sig .tc .vmem S8x1280 .f32) (harg7 : arg7.IsWhole)
  (X3 : BufTy.Contents (Elt Ideal) arg3.view.ty) (X4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (x : S32x1000000.Idx → EReal) (hx : (i 1).val = 0 → Holds i x (arg4.view.read (Elt Ideal) X4))

include hx in
/-- A call at any grid point. -/
theorem call_any :
    Bufs c arg3 arg4 arg5 arg6 arg7 X3 X4 f5 f6 f7
      ⊢ wp frame (wpE (defs₀ (F := Ideal)) 𝒱 (c : Thread nD τ) bd) Set.univ
        (cc0__body i arg3 harg3 arg4 harg4 arg5 harg5 arg6 harg6 arg7 harg7)
        (fun _ => After c arg3 arg4 arg5 arg6 arg7 X3 X4
          (Left i (Ideal.exp (arg3.view.read (Elt Ideal) X3 (ix2 0 0))) x f6 f7)) := by
  rcases branches i with ⟨h1, h2, h3, h4⟩ | ⟨h1, h2, h3, h4⟩ | ⟨h1, h2, h3, h4⟩ | ⟨h1, h2, h3, h4, h5⟩ | ⟨h1, h2, h3, h4, h5⟩
  · have hp := phase_full i h2
    refine (call_first 𝒱 c bd i arg3 harg3 arg4 harg4 arg5 harg5 arg6 harg6 arg7 harg7 X3 X4 f5 f6 f7 h1 h2 h3 h4).trans (wp_mono _ _ _ fun _ => After.mono fun g5 g6 g7 ⟨_, e6, e7⟩ => ?_)
    refine ⟨fun _ => gathers_full 𝒱 c bd i arg3 harg3 arg4 harg4 arg5 harg5 arg6 harg6 arg7 harg7 X3 X4 f6 g6 f7 g7 x (hx hp) h2
      _ (fun r l => ?_) e6 e7, fun h => absurd (h.symm.trans hp) (by decide)⟩
    rw [if_pos (at_first i h1)]
    unfold k0_pay3
    pointwise
  · have hp := phase_full i h2
    refine (call_middle 𝒱 c bd i arg3 harg3 arg4 harg4 arg5 harg5 arg6 harg6 arg7 harg7 X3 X4 f5 f6 f7 h1 h2 h3 h4).trans (wp_mono _ _ _ fun _ => After.mono fun g5 g6 g7 ⟨_, e6, e7⟩ => ?_)
    refine ⟨fun _ => gathers_full 𝒱 c bd i arg3 harg3 arg4 harg4 arg5 harg5 arg6 harg6 arg7 harg7 X3 X4 f6 g6 f7 g7 x (hx hp) h2
      _ (fun r l => ?_) e6 e7, fun h => absurd (h.symm.trans hp) (by decide)⟩
    rw [if_neg (at_middle i h1 h2)]
  · have hp := phase_last i h3
    refine (call_last 𝒱 c bd i arg3 harg3 arg4 harg4 arg5 harg5 arg6 harg6 arg7 harg7 X3 X4 f5 f6 f7 h1 h2 h3 h4).trans (wp_mono _ _ _ fun _ => After.mono fun g5 g6 g7 ⟨_, e6, e7⟩ => ?_)
    exact ⟨fun _ => gathers_last 𝒱 c bd i arg3 harg3 arg4 harg4 arg5 harg5 arg6 harg6 arg7 harg7 X3 X4 f6 g6 f7 g7 x (hx hp) h3
      e6 e7, fun h => absurd (h.symm.trans hp) (by decide)⟩
  · have hp := phase_scale i h4
    refine (call_scale 𝒱 c bd i arg3 harg3 arg4 harg4 arg5 harg5 arg6 harg6 arg7 harg7 X3 X4 f5 f6 f7 h1 h2 h3 h4 h5).trans (wp_mono _ _ _ fun _ => After.mono fun g5 g6 g7 ⟨e6, e7, e5⟩ => ?_)
    exact ⟨fun h => absurd (h.symm.trans hp) (by decide), fun _ => ⟨e6, e7,
      scales_full 𝒱 c bd i arg3 harg3 arg4 harg4 arg5 harg5 arg6 harg6 arg7 harg7 f5 f6 f7 h4 h5 g5 e5⟩⟩
  · have hp := phase_scale i h4
    refine (call_scale_last 𝒱 c bd i arg3 harg3 arg4 harg4 arg5 harg5 arg6 harg6 arg7 harg7 X3 X4 f5 f6 f7 h1 h2 h3 h4 h5).trans (wp_mono _ _ _ fun _ => After.mono fun g5 g6 g7 ⟨e6, e7, e5⟩ => ?_)
    exact ⟨fun h => absurd (h.symm.trans hp) (by decide), fun _ => ⟨e6, e7,
      scales_last 𝒱 c bd i arg3 harg3 arg4 harg4 arg5 harg5 arg6 harg6 arg7 harg7 f5 f6 f7 h4 h5 g5 e5⟩⟩

end
end Cert.Proof.Value
end
-- ==== Proof.State.lean ====
/- What the two scratch buffers hold between two grid points, and that a call keeps it. -/
module

public import proofs.«01_k».proof.Proof.Call

@[expose] public section

set_option maxRecDepth 16384

noncomputable section

namespace Cert.Proof.Value

open Idealize.ShloMosaic Idealize.ShloMosaic.TcCoe Idealize.ShloMosaic.Tactic
open Cert.KernelIdeal Cert.KernelIdeal.Gen

/-- Before point `n`: the windows of the row group gathered so far hold their exponentials, and lane `l` of the
    accumulator their sum over the columns congruent to `l`. -/
def Inv (s : EReal) (x : S32x1000000.Idx → EReal) (n : ℕ) (e : S8x1000000.Idx → EReal) (a : S8x1280.Idx → EReal) : Prop :=
  (∀ (r : Fin 8) (c : Fin 1000000), c.val < 128000 * min (n % 16) 8 → e (ix2 r c) = E s x (8 * (n / 16) + r.val) c.val)
    ∧ (0 < n % 16 → ∀ (r : Fin 8) (l : Fin 1280), a (ix2 r l)
        = ∑ q ∈ Finset.range (100 * min (n % 16) 8), E s x (8 * (n / 16) + r.val) (1280 * q + l.val))

/-- The sum of a row's exponentials, lane by lane as the accumulator has it. -/
def total (s : EReal) (x : S32x1000000.Idx → EReal) (R : ℕ) : EReal :=
  ∑ l : Fin 1280, ∑ q ∈ Finset.range 800, E s x R (1280 * q + l.val)

/-- The kernel's result at a row and a column. -/
def Out (s : EReal) (x : S32x1000000.Idx → EReal) (R c : ℕ) : EReal := E s x R c * Ideal.div 1 (total s x R)

variable {s : EReal} {x : S32x1000000.Idx → EReal} {i : grid0.Coords} {n : ℕ}
  {v5 : View sig .tc .vmem S8x128000 .f32} {v6 : View sig .tc .vmem S8x1000000 .f32} {v7 : View sig .tc .vmem S8x1280 .f32}
  {f6 g6 : BufTy.Contents (Elt Ideal) v6.ty} {f7 g7 : BufTy.Contents (Elt Ideal) v7.ty}
  {g5 : BufTy.Contents (Elt Ideal) v5.ty}

/-- A call keeps the invariant. -/
theorem Inv.step (h0 : (i 0).val = n / 16) (h1 : (i 1).val = n % 16 / 8) (h2 : (i 2).val = n % 8)
    (h : Inv s x n (v6.read (Elt Ideal) f6) (v7.read (Elt Ideal) f7)) (hl : Left i s x f6 f7 g5 g6 g7) :
    Inv s x (n + 1) (v6.read (Elt Ideal) g6) (v7.read (Elt Ideal) g7) := by
  rcases Nat.lt_or_ge (n % 16) 8 with hp | hp
  · obtain ⟨hf, ha⟩ := hl.1 (by omega)
    have e0 : (n + 1) / 16 = n / 16 := by omega
    have e1 : min ((n + 1) % 16) 8 = n % 16 + 1 := by omega
    have e2 : (i 2).val = n % 16 := by omega
    refine ⟨fun r c hc => ?_, fun _ r l => ?_⟩
    · rw [e1] at hc
      rw [e0, hf r c, e2, h0]
      have hb : c.val < 1000000 := c.isLt
      by_cases hk : 128000 * (n % 16) ≤ c.val
      · rw [if_pos ⟨hk, lt_min (by rwa [Nat.mul_add, Nat.mul_one] at hc) hb⟩]
      · rw [if_neg fun h => hk h.1]
        exact h.1 r c (by rw [Nat.min_eq_left (Nat.le_of_lt hp)]; exact Nat.lt_of_not_le hk)
    · rw [e0, e1, ha r l, e2, h0, Nat.mul_add, Finset.sum_range_add]
      congr 1
      · split
        · next hz => rw [hz, Nat.mul_zero, Finset.sum_range_zero]
        · next hz =>
          rw [h.2 (by omega) r l, show min (n % 16) 8 = n % 16 by omega]
      · refine Finset.sum_congr rfl fun q _ => ?_
        congr 1; ring
  · obtain ⟨rfl, rfl, -⟩ := hl.2 (by omega)
    rcases Nat.lt_or_ge (n % 16) 15 with hq | hq
    · have e0 : (n + 1) / 16 = n / 16 := by omega
      have e1 : min ((n + 1) % 16) 8 = 8 := by omega
      have e2 : min (n % 16) 8 = 8 := by omega
      refine ⟨fun r c hc => ?_, fun _ r l => ?_⟩
      · rw [e0]; exact h.1 r c (by omega)
      · rw [e0, e1, h.2 (by omega) r l, e2]
    · exact ⟨fun r c hc => by omega, fun hz => by omega⟩

/-- A call of phase 1 leaves the result in its block. -/
theorem Inv.out (h0 : (i 0).val = n / 16) (h1 : (i 1).val = n % 16 / 8) (h2 : (i 2).val = n % 8) (hp : 8 ≤ n % 16)
    (h : Inv s x n (v6.read (Elt Ideal) f6) (v7.read (Elt Ideal) f7)) (hl : Left i s x f6 f7 g5 g6 g7)
    (r : Fin 8) (w : Fin 128000) (hw : 128000 * (n % 8) + w.val < 1000000) :
    v5.read (Elt Ideal) g5 (ix2 r w) = Out s x (8 * (n / 16) + r.val) (128000 * (n % 8) + w.val) := by
  obtain ⟨-, -, hs⟩ := hl.2 (by omega)
  have e2 : min (n % 16) 8 = 8 := by omega
  have ha := h.2 (by omega)
  rw [e2] at ha
  rw [hs r w (by omega), h2]
  unfold Out total inv
  congr 1
  · rw [show at2 (v6.read (Elt Ideal) f6) r.val (128000 * (n % 8) + w.val)
      = v6.read (Elt Ideal) f6 (ix2 r ⟨_, hw⟩) from at2_fin _ r ⟨_, hw⟩]
    exact h.1 r ⟨_, hw⟩ (by show _ < _; rw [e2]; exact lt_of_lt_of_le hw (by norm_num))
  · congr 1
    exact Finset.sum_congr rfl fun l _ => ha r l

end Cert.Proof.Value
end
-- ==== Proof.Launch.lean ====
/- The launch of the kernel as printed, with the value it leaves: the pipeline's proof data, what the body finds in the
   two input windows, and the body's obligation at every grid point. -/
module

public import proofs.«01_k».proof.Proof.State
public import proofs.«01_k».proof.Proof.IdealFrame
public import Idealize.ShloMosaic.Lib.Pipeline.ValueKit
public import Idealize.ShloMosaic.Lib.Pipeline.ArrRel

@[expose] public section

set_option maxRecDepth 16384

noncomputable section

namespace Cert.Proof.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Cert.Proof.IdealFrame (defs₀_row)

local notation "𝕄" => MT nD τ sig Unit (Elt Ideal) ℕ (UR sig nD τ) ℕ

variable (m : (ℓ : Loc nD τ sig) → Buf (Elt Ideal) ℓ) (ρ : Dev nD → PrngReg)

/-- The exponential of the temperature. -/
def scaleOf (c : Dev nD) : EReal := Ideal.exp (V m c (Pipeline.arrRef spec0 0) (ix2 0 0))
/-- The logits. -/
def xOf (c : Dev nD) : S32x1000000.Idx → EReal := V m c (Pipeline.arrRef spec0 1)

/-- A grid point's coordinates. -/
theorem coords_eq : ∀ t : Fin grid0.N, (grid0.coords t 0).val = t.val / 16 ∧ (grid0.coords t 1).val = t.val % 16 / 8
    ∧ (grid0.coords t 2).val = t.val % 8 := by decide +kernel

/-- The block of the logits' window: by row group and window in phase 0, the row group's first in phase 1. -/
theorem index_1 : ∀ t : Fin grid0.N, win0_1.index t
    = ![(grid0.coords t 0).val, if (grid0.coords t 1).val = 0 then (grid0.coords t 2).val else 0] := by decide +kernel
/-- The block of the result's window: the row group's first in phase 0, by row group and window in phase 1. -/
theorem index_2 : ∀ t : Fin grid0.N, win0_2.index t
    = ![(grid0.coords t 0).val, if (grid0.coords t 1).val = 1 then (grid0.coords t 2).val else 0] := by decide +kernel
/-- The block of the temperature's window. -/
theorem index_0 : ∀ t : Fin grid0.N, win0_0.index t = ![0, 0] := by decide +kernel
/-- The part of the logits' window inside the array: the last window of a row is cut to 104000 columns. -/
theorem xsize_1 : ∀ t : Fin grid0.N, (grid0.coords t 1).val = 0 → win0_1.xsize (grid0.coords t)
    = ![8, if (grid0.coords t 2).val = 7 then 104000 else 128000] := by decide +kernel
/-- Points at the same block cut the logits' window alike. -/
theorem clip_1 : ∀ t t' : Fin grid0.N, win0_1.index t = win0_1.index t' →
    win0_1.clip (grid0.coords t) = win0_1.clip (grid0.coords t') := by decide +kernel
/-- The temperature's window is whole. -/
theorem xsize_0 : ∀ t : Fin grid0.N, win0_0.xsize (grid0.coords t) = ![1, 1] := by decide +kernel

/-- What a point leaves in the result's window. -/
def Leaves2 (c : Dev nD) (t : ℕ) (X : S8x128000.Idx → EReal) : Prop :=
  8 ≤ t % 16 → ∀ (r : Fin 8) (w : Fin 128000), 128000 * (t % 8) + w.val < 1000000 →
    X (ix2 r w) = Out (scaleOf m c) (xOf m c) (8 * (t / 16) + r.val) (128000 * (t % 8) + w.val)

/-- The proof data: the arrays as the region finds them; the input windows left as found and the result's window with the
    result in phase 1; the scratch buffers as `Inv` has them between points. -/
def rdat (c : Dev nD) : RDat τ (Elt Ideal) Unit ℕ (UR sig nD τ) ℕ cfg0 c where
  A w := V m c (Pipeline.arrRef spec0 w)
  after w t Y X := match w with
    | 0 => X = Y
    | 1 => X = Y
    | 2 => Leaves2 m c t.val X
  Φ n := iprop((∃ f6 : Buf (Elt Ideal) ((c : Thread nD τ).loc cc0_scratch0), ∃ f7 : Buf (Elt Ideal) ((c : Thread nD τ).loc cc0_scratch1),
      (((c : Thread nD τ).loc cc0_scratch0) ↦{fullShare} f6) ∗ (((c : Thread nD τ).loc cc0_scratch1) ↦{fullShare} f7)
        ∗ ⌜Inv (scaleOf m c) (xOf m c) n.val ((Memref.whole cc0_scratch0).view.read (Elt Ideal) f6) ((Memref.whole cc0_scratch1).view.read (Elt Ideal) f7)⌝)
      ∗ ∃ r, prngReg c r)
  q _ := fullShare
  owed _ := 0

/-- What the body finds in window 0: the temperature. -/
theorem finds_0 (c : Dev nD) (t : Fin cfg0.N) (Y) (h : (rdat m c).Finds 0 t Y) :
    Y (ix2 0 0) = V m c (Pipeline.arrRef spec0 0) (ix2 0 0) := by
  obtain ⟨d, rfl⟩ := (rdat m c).finds_in_eq_fetched 0 rfl (fun t t' _ => rfl) (fun t Y X h => h) t Y h
  have hm : (cfg0.win 0).moved (cfg0.grid.coords t) (ix2 0 0) = true := rfl
  unfold RDat.fetched Pipeline.Window.fill
  rw [dif_pos hm]
  unfold RDat.blockOf
  blk_simp
  show V m c (Pipeline.arrRef spec0 0) _ = V m c (Pipeline.arrRef spec0 0) _
  refine congrArg _ ?_
  blk_ext [index_0]

/-- What the body finds in window 1 in phase 0: a window of the logits. -/
theorem finds_1 (c : Dev nD) (t : Fin cfg0.N) (Y) (h : (rdat m c).Finds 1 t Y) (hp : (grid0.coords t 1).val = 0) :
    Holds (grid0.coords t) (xOf m c) Y := by
  obtain ⟨d, rfl⟩ := (rdat m c).finds_in_eq_fetched 1 rfl clip_1 (fun t Y X h => h) t Y h
  intro r w hr hw hlt
  have h0 : (grid0.coords t 0).val < 4 := (grid0.coords t 0).isLt
  have hm : (cfg0.win 1).moved (cfg0.grid.coords t) (ix2 (⟨r, hr⟩ : Fin 8) (⟨w, hw⟩ : Fin 128000)) = true := by
    refine (win0_1.moved_iff _ _).mpr ?_
    rw [xsize_1 t hp]
    intro a
    fin_cases a
    · exact hr
    · show w < if (grid0.coords t 2).val = 7 then 104000 else 128000
      split <;> omega
  rw [show at2 ((rdat m c).fetched 1 t d) r w = (rdat m c).fetched 1 t d (ix2 (⟨r, hr⟩ : Fin 8) (⟨w, hw⟩ : Fin 128000)) from
      at2_fin (m := 8) (n := 128000) _ ⟨r, hr⟩ ⟨w, hw⟩,
    show at2 (xOf m c) (8 * (grid0.coords t 0).val + r) (128000 * (grid0.coords t 2).val + w)
      = xOf m c (ix2 (⟨8 * (grid0.coords t 0).val + r, by omega⟩ : Fin 32) (⟨128000 * (grid0.coords t 2).val + w, hlt⟩ : Fin 1000000)) from
      at2_fin (m := 32) (n := 1000000) _ ⟨_, by omega⟩ ⟨_, hlt⟩]
  unfold RDat.fetched Pipeline.Window.fill
  rw [dif_pos hm]
  unfold RDat.blockOf
  blk_simp
  show xOf m c _ = xOf m c _
  refine congrArg _ ?_
  have e0 : win0_1.index t 0 = (grid0.coords t 0).val := congrFun (index_1 t) 0
  have e1 : win0_1.index t 1 = (grid0.coords t 2).val := (congrFun (index_1 t) 1).trans (if_pos hp)
  blk_ext [e0, e1]

end Cert.Proof.Value
end
-- ==== Proof.Run.lean ====
/- The body's obligation at every grid point of the kernel as printed, and the invariant at both ends of the region. -/
module

public import proofs.«01_k».proof.Proof.Launch

@[expose] public section

set_option maxRecDepth 16384

noncomputable section

namespace Cert.Proof.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Cert.Proof.IdealFrame (defs₀_row)

local notation "𝕄" => MT nD τ sig Unit (Elt Ideal) ℕ (UR sig nD τ) ℕ

variable (m : (ℓ : Loc nD τ sig) → Buf (Elt Ideal) ℓ) (ρ : Dev nD → PrngReg)

/-- What the body is called with at point `t`, and what it hands back: the invariant, the debts, the three staging buffers. -/
def bodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2))
/-- What the body leaves at a point. -/
def bodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X))

/-- The body's triple at a point. -/
theorem sound_body (c : Dev nD) (t : Fin cfg0.N) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  obtain ⟨c0, c1, c2⟩ := coords_eq t
  have hs : Y 0 (ix2 0 0) = V m c (Pipeline.arrRef spec0 0) (ix2 0 0) := finds_0 m c t (Y 0) (hY 0)
  have hx := finds_1 m c t (Y 1) (hY 1)
  unfold bodyPre bodyPost bodyAt0
  rw [show (rdat m c).owesAt () t.succ = (rdat m c).owesAt () t.castSucc from rfl]
  unfold owns
  dsimp only [rdat]
  iintro ⟨⟨⟨%f6, %f7, H6, H7, %hinv⟩, Hg⟩, HO, ⟨%f3, %h3, H3⟩, ⟨%f4, %h4, H4⟩, ⟨%f5, %h5, H5⟩⟩
  iapply (wp_wand_r Idealize.ShloMosaic.frame (wpE (defs₀ (F := Ideal)) Variants.none (c : Thread nD τ) none) Set.univ)
  isplitl [H3 H4 H5 H6 H7]
  · iapply (call_any Variants.none c none (grid0.coords t) _ (hstage0_0 ((cfg0.slots t 0).cast nbuf0_0))
      _ (hstage0_1 ((cfg0.slots t 1).cast nbuf0_1)) _ (hstage0_2 ((cfg0.slots t 2).cast nbuf0_2))
      (Memref.whole cc0_scratch0) (Memref.isWhole_whole _) (Memref.whole cc0_scratch1) (Memref.isWhole_whole _) f3 f4 f5 f6 f7
      (xOf m c) (fun hp => by have h := hx hp; rw [← h4] at h; exact h))
    isplitl [H3]; · iexact H3
    isplitl [H4]; · iexact H4
    isplitl [H5]; · iexact H5
    isplitl [H6]; · simp only [Memref.view_whole, View.set_whole]; iexact H6
    simp only [Memref.view_whole, View.set_whole]; iexact H7
  · iintro %_ ⟨%g5, %g6, %g7, ⟨H3, H4, H5, H6, H7⟩, %hl⟩
    have hl' : Left (grid0.coords t) (scaleOf m c) (xOf m c) (v5 := (st0_2 t).view) (v6 := (Memref.whole cc0_scratch0).view)
        (v7 := (Memref.whole cc0_scratch1).view) f6 f7 g5 g6 g7 := by
      have e : scaleOf m c = Ideal.exp ((st0_0 t).view.read (Elt Ideal) f3 (ix2 0 0)) := by
        rw [h3, hs]; rfl
      rw [e]; exact hl
    isplitl [H6 H7 Hg]
    · isplitr [Hg]
      · iexists g6, g7
        isplitl [H6]
        · simp only [Memref.view_whole, View.set_whole]; iexact H6
        isplitl [H7]
        · simp only [Memref.view_whole, View.set_whole]; iexact H7
        ipureintro
        exact Inv.step c0 c1 c2 hinv hl'
      · iexact Hg
    isplitl [HO]; · iexact HO
    isplitl [H3]
    · iexists ((st0_0 t).view.read (Elt Ideal) f3); isplitr; · ipureintro; exact h3
      iexists f3; isplitr; · ipureintro; rfl
      iexact H3
    isplitl [H4]
    · iexists ((st0_1 t).view.read (Elt Ideal) f4); isplitr; · ipureintro; exact h4
      iexists f4; isplitr; · ipureintro; rfl
      iexact H4
    iexists ((st0_2 t).view.read (Elt Ideal) g5); isplitr
    · ipureintro
      intro hp r w hw
      exact Inv.out c0 c1 c2 hp hinv hl' r w hw
    iexists g5; isplitr; · ipureintro; rfl
    iexact H5

/-- The body obligation at every point. -/
theorem body_ok (c : Dev nD) : (rdat m c).BodyObligation defs₀ Variants.none () Set.univ := fun t Y hY => by
  rw [bigSep_W0, bigSep_W0, defs₀_row]
  exact triple_restated (sound_body m c t Y hY) rfl .rfl fun _ => .rfl

/-- Before the first point nothing is known of the scratch buffers. -/
theorem Inv.zero (s : EReal) (x : S32x1000000.Idx → EReal) (e : S8x1000000.Idx → EReal) (a : S8x1280.Idx → EReal) : Inv s x 0 e a :=
  ⟨fun r c hc => absurd hc (Nat.not_lt_zero _), fun h => absurd h (by decide)⟩

/-- The region's scratch is the invariant before the first point. -/
theorem enter (c : Dev nD) : Pipeline.ΦA spec0 c ⊢ (rdat m c).Φ 0 := by
  unfold Pipeline.ΦA
  rw [scopedRest0_eq]
  dsimp only [rdat]
  iintro ⟨⟨⟨%f6, H6⟩, ⟨%f7, H7⟩⟩, Hg⟩
  isplitr [Hg]
  · iexists f6, f7
    isplitl [H6]; · iexact H6
    isplitl [H7]; · iexact H7
    ipureintro
    exact Inv.zero _ _ _ _
  · iexact Hg

/-- After the last point the scratch is handed back. -/
theorem leave (c : Dev nD) : (rdat m c).Φ (Fin.last cfg0.N) ⊢ Pipeline.ΦA spec0 c := by
  unfold Pipeline.ΦA
  rw [scopedRest0_eq]
  dsimp only [rdat]
  iintro ⟨⟨%f6, %f7, H6, H7, %_⟩, Hg⟩
  isplitr [Hg]
  · isplitl [H6]
    · iexists f6; iexact H6
    · iexists f7; iexact H7
  · iexact Hg

end Cert.Proof.Value
end
-- ==== Proof.Result.lean ====
/- The result of the kernel as printed, read from what the pipeline leaves. -/
module

public import proofs.«01_k».proof.Proof.Run

@[expose] public section

set_option maxRecDepth 16384

noncomputable section

namespace Cert.Proof.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Cert.Proof.IdealFrame (defs₀_row)

local notation "𝕄" => MT nD τ sig Unit (Elt Ideal) ℕ (UR sig nD τ) ℕ

variable (m : (ℓ : Loc nD τ sig) → Buf (Elt Ideal) ℓ) (ρ : Dev nD → PrngReg)

/-- The points that write the result back are phase 1's. -/
theorem flush_2 : ∀ t : Fin grid0.N, win0_2.flush t = true → 8 ≤ t.val % 16 := by decide +kernel
/-- The part of the result's window inside the array. -/
theorem xsize_2 : ∀ t : Fin grid0.N, 8 ≤ t.val % 16 → win0_2.xsize (grid0.coords t)
    = ![8, if t.val % 8 = 7 then 104000 else 128000] := by decide +kernel
/-- The block the result's window is written back to. -/
theorem place_2 : ∀ t : Fin grid0.N, 8 ≤ t.val % 16 → win0_2.index t = ![t.val / 16, t.val % 8] := by decide +kernel

/-- The result array. -/
def resultOf (c : Dev nD) : S32x1000000.Idx → EReal := fun i => Out (scaleOf m c) (xOf m c) (i 0).val (i 1).val

/-- The result array after the run. -/
theorem result_eq (r : PUnit × MemSt nD τ sig (Elt Ideal)) (h : RDat.FramePost cfg0 (rdat m) (V m) r) (c : Dev nD) :
    r.2.mem ((c.tc : Thread nD τ).loc main_v1) = resultOf m c := by
  obtain ⟨after, hL, hA⟩ := h.exists_exact c
  refine (hA 2).trans ?_
  refine ((rdat m c).withAfter after).arrAt_eq_of_covers 2 (resultOf m c) (by decide +kernel) fun t hf y => ?_
  have hp := flush_2 t hf
  obtain ⟨Y, -, hX⟩ := hL 2 t hf
  have hX : Leaves2 m c t.val (after 2 t) := hX
  have e := xsize_2 t hp
  have hy0 : (y 0).val < 8 := lt_of_lt_of_eq (y 0).isLt (congrFun e 0)
  have hy1 : (y 1).val < if t.val % 8 = 7 then 104000 else 128000 := lt_of_lt_of_eq (y 1).isLt (congrFun e 1)
  have hw : (y 1).val < 128000 := lt_of_lt_of_le hy1 (by split <;> norm_num)
  have hlt : 128000 * (t.val % 8) + (y 1).val < 1000000 := by split at hy1 <;> omega
  have e0 : win0_2.index t 0 = t.val / 16 := congrFun (place_2 t hp) 0
  have e1 : win0_2.index t 1 = t.val % 8 := congrFun (place_2 t hp) 1
  have hv := hX hp ⟨(y 0).val, hy0⟩ ⟨(y 1).val, hw⟩ hlt
  have hi : (cfg0.win 2).xinj (cfg0.grid.coords t) y = ix2 (⟨(y 0).val, hy0⟩ : Fin 8) (⟨(y 1).val, hw⟩ : Fin 128000) := by
    funext a; fin_cases a <;> rfl
  rw [hi]
  refine hv.trans ?_
  show Out _ _ (8 * (t.val / 16) + (y 0).val) (128000 * (t.val % 8) + (y 1).val) = Out _ _ _ _
  congr 1
  · blk_simp [e0]; omega
  · blk_simp [e1]; omega

/-- The run from any memory: the result, the arguments as launched, the counters at zero. -/
theorem run : θ_run (defs (F := Ideal)) (onTc (τ := τ) (main (F := Ideal))) ⟨m, fun _ => 0, ρ⟩ (fun r => (∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  RDat.θ_run_frame_track cfgs 0 launch0 defs₀ Variants.none (fun c => rdat m c) m ρ main (fun c => body_ok m c)
    (fun c w => by unfold RDat.share; split <;> rfl) (fun _ _ => rfl) (V m) (hmain m Variants.none) (fun _ _ => rfl)
    (enter m) (leave m) _ (fun r h => ⟨fun c => ⟨result_eq m r h.1 c,
      (Pipeline.RDat.FramePost.arr_in h.1 c 1 rfl).trans (V_main_arg0 m c),
        ((h.1 c).2 main_arg1 (Pipeline.mem_restRefs_of main_arg1 (by decide) (by decide))).trans (V_main_arg1 m c)⟩, h.2⟩)

end Cert.Proof.Value
end
-- ==== Proof.Noise.lean ====
/- The noise of every counter is a real number. -/
module

public import proofs.«01_k».proof.Proof.Cell
public import Idealize.ShloMosaic.Lib.IdealHost

@[expose] public section

noncomputable section

namespace Cert.Proof.Value

open Idealize.ShloMosaic

/-- The 23 random bits of a word. -/
def frac (b : BitVec 32) : ℕ := (b >>> 9).toNat

/-- A fraction is below two to the 23. -/
theorem frac_lt (b : BitVec 32) : frac b < 2 ^ 23 := by
  unfold frac
  rw [BitVec.toNat_ushiftRight, Nat.shiftRight_eq_div_pow]
  have := b.isLt
  omega

/-- The word between 1 and 2 made of a word's random bits. -/
theorem word_toNat (b : BitVec 32) : ((b >>> 9) ||| 1065353216#32).toNat = 2 ^ 23 * 127 + frac b := by
  rw [BitVec.toNat_or, Nat.or_comm, show (1065353216#32).toNat = 2 ^ 23 * 127 by decide]
  show 2 ^ 23 * 127 ||| frac b = _
  rw [← Nat.two_pow_add_eq_or_of_lt (frac_lt b)]

/-- … as a real. -/
theorem word_real (b : BitVec 32) :
    Ideal.ofBits .f32 ((b >>> 9) ||| 1065353216#32) = ((1 + frac b / 2 ^ 23 : ℝ) : EReal) := by
  have hk := frac_lt b
  have hz := word_toNat b
  generalize (b >>> 9) ||| 1065353216#32 = z at hz
  have e1 : (z.extractLsb' 31 1 == 1#1) = false := by
    rw [beq_eq_false_iff_ne]
    intro h
    have := congrArg BitVec.toNat h
    rw [BitVec.extractLsb'_toNat, hz, Nat.shiftRight_eq_div_pow] at this
    have h1 : (1#1).toNat = 1 := rfl
    omega
  have e2 : (z.extractLsb' 23 8).toNat = 127 := by
    rw [BitVec.extractLsb'_toNat, hz, Nat.shiftRight_eq_div_pow]; omega
  have e3 : (z.extractLsb' 0 23).toNat = frac b := by
    rw [BitVec.extractLsb'_toNat, hz, Nat.shiftRight_eq_div_pow]; omega
  show Ideal.ieee 8 23 z = _
  unfold Ideal.ieee
  simp only [Nat.reduceAdd, e1, e2, e3]
  rw [if_neg (by decide), if_neg (by decide)]
  congr 1
  norm_num
  ring

/-- The small constant, as a real. -/
theorem eps_real : Ideal.ofBits .f32 0x2EDBE6FF#32 = ((14411519 / 2 ^ 57 : ℝ) : EReal) := by
  simp [Ideal.ofBits, Ideal.ieee, -EReal.coe_mul]; norm_num

/-- The logarithm of a positive real number is the real logarithm. -/
theorem log_real {r : ℝ} (h : 0 < r) : Ideal.log (r : EReal) = ((Real.log r : ℝ) : EReal) := by
  show (if r ≤ 0 then ⊥ else (Real.log r : EReal)) = _
  rw [if_neg (not_le.mpr h)]

/-- The uniform number of a random word. -/
def unif (b : BitVec 32) : ℝ := frac b / 2 ^ 23

/-- The uniform number is at least zero. -/
theorem unif_nonneg (b : BitVec 32) : 0 ≤ unif b := by unfold unif; positivity

/-- The uniform number and the small constant added to it stay below one. -/
theorem unif_add_lt (b : BitVec 32) : unif b + 14411519 / 2 ^ 57 < 1 := by
  have h : (frac b : ℝ) ≤ 2 ^ 23 - 1 := by
    have := frac_lt b
    have h' : frac b + 1 ≤ 2 ^ 23 := this
    have : ((frac b + 1 : ℕ) : ℝ) ≤ ((2 ^ 23 : ℕ) : ℝ) := by exact_mod_cast h'
    push_cast at this
    linarith
  unfold unif
  have : (frac b : ℝ) / 2 ^ 23 ≤ (2 ^ 23 - 1) / 2 ^ 23 := by gcongr
  have h2 : ((2 : ℝ) ^ 23 - 1) / 2 ^ 23 + 14411519 / 2 ^ 57 < 1 := by norm_num
  linarith

/-- The noise of a random word, as a real. -/
def noiseR (b : BitVec 32) : ℝ := -Real.log (-Real.log (unif b + 14411519 / 2 ^ 57) + 14411519 / 2 ^ 57)

/-- The two logarithms of a uniform number. -/
theorem logs_real (b : BitVec 32) :
    -Ideal.log (-Ideal.log ((unif b : EReal) + Ideal.ofBits .f32 0x2EDBE6FF#32) + Ideal.ofBits .f32 0x2EDBE6FF#32)
      = ((noiseR b : ℝ) : EReal) := by
  have h0 := unif_nonneg b
  have h1 := unif_add_lt b
  have hp : (0 : ℝ) < 14411519 / 2 ^ 57 := by norm_num
  have hu : 0 < unif b + 14411519 / 2 ^ 57 := by linarith
  have hl : Real.log (unif b + 14411519 / 2 ^ 57) < 0 := Real.log_neg hu h1
  rw [eps_real, ← EReal.coe_add, log_real hu, ← EReal.coe_neg, ← EReal.coe_add, log_real (by linarith), ← EReal.coe_neg]
  rfl

/-- The uniform number, from the word between 1 and 2. -/
theorem unif_real (b : BitVec 32) :
    Ideal.ofBits .f32 ((b >>> 9) ||| 1065353216#32) - Ideal.ofBits .f32 0x3F800000#32 = ((unif b : ℝ) : EReal) := by
  rw [word_real, Ideal.ofBits_one_f32, show (1 : EReal) = ((1 : ℝ) : EReal) from rfl, ← EReal.coe_sub]
  unfold unif
  congr 1
  ring

/-- The kernel's noise is the real one. -/
theorem noiseW_real (w : BitVec 32) : noiseW (F := Ideal) w = ((noiseR (bitsW w) : ℝ) : EReal) := by
  have hs : Scalar.shrui (bitsW w) 9#32 = bitsW w >>> 9 := rfl
  have h : noiseW (F := Ideal) w = Ideal.ofBits .f32 0x00000000#32 - Ideal.log ((Ideal.ofBits .f32 0x00000000#32
      - Ideal.log ((Ideal.ofBits .f32 ((bitsW w >>> 9) ||| 1065353216#32) - Ideal.ofBits .f32 0x3F800000#32)
        + Ideal.ofBits .f32 0x2EDBE6FF#32)) + Ideal.ofBits .f32 0x2EDBE6FF#32) := by
    rw [← hs]; rfl
  rw [h, unif_real, Ideal.ofBits_zero_f32, zero_sub, zero_sub, logs_real]

end Cert.Proof.Value
end
-- ==== Proof.Softmax.lean ====
/- Softmax over the extended reals: scores below infinity, one of them real, give one softmax whichever real number is
   subtracted from them first. -/
module

public import Idealize.ShloMosaic.PureOps.Ideal
public import Idealize.ShloMosaic.PureOps.Ideal.Laws

@[expose] public section

noncomputable section

namespace Cert.Proof.Value

open Idealize.ShloMosaic

/-- The exponential of a score below infinity, as a real. -/
def weight (y : EReal) : ℝ := if y = ⊥ then 0 else Real.exp y.toReal

/-- A weight is at least zero. -/
theorem weight_nonneg (y : EReal) : 0 ≤ weight y := by
  unfold weight; split
  · exact le_refl _
  · exact (Real.exp_pos _).le

/-- The weight of a score above minus infinity is positive. -/
theorem weight_pos {y : EReal} (h : y ≠ ⊥) : 0 < weight y := by
  unfold weight; rw [if_neg h]; exact Real.exp_pos _

/-- The exponential of a score less a real. -/
theorem exp_sub (y : EReal) (hy : y ≠ ⊤) (μ : ℝ) :
    Ideal.exp (y - (μ : EReal)) = ((weight y * Real.exp (-μ) : ℝ) : EReal) := by
  induction y using EReal.rec with
  | bot =>
    rw [EReal.bot_sub]
    show (0 : EReal) = _
    unfold weight
    rw [if_pos rfl, zero_mul, EReal.coe_zero]
  | top => exact absurd rfl hy
  | coe r =>
    rw [← EReal.coe_sub]
    show ((Real.exp (r - μ) : ℝ) : EReal) = _
    unfold weight
    rw [if_neg (EReal.coe_ne_bot r), EReal.toReal_coe, ← Real.exp_add, sub_eq_add_neg]

/-- A finite sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a real other than zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- One softmax, whichever real is subtracted first, the quotient taken by a reciprocal or not. -/
theorem softmax {ι : Type} [Fintype ι] (y : ι → EReal) (ht : ∀ i, y i ≠ ⊤) (hb : ∃ i, y i ≠ ⊥) (κ μ : ℝ) (i : ι) :
    Ideal.exp (y i - (κ : EReal)) * Ideal.div 1 (∑ j, Ideal.exp (y j - (κ : EReal)))
      = Ideal.div (Ideal.exp (y i - (μ : EReal))) (∑ j, Ideal.exp (y j - (μ : EReal))) := by
  have hW : 0 < ∑ j, weight (y j) := by
    obtain ⟨k, hk⟩ := hb
    exact Finset.sum_pos' (fun j _ => weight_nonneg _) ⟨k, Finset.mem_univ _, weight_pos hk⟩
  have hs : ∀ ν : ℝ, ∑ j, Ideal.exp (y j - (ν : EReal)) = (((∑ j, weight (y j)) * Real.exp (-ν) : ℝ) : EReal) := fun ν => by
    rw [Finset.sum_mul, coe_sum]
    exact Finset.sum_congr rfl fun j _ => exp_sub _ (ht j) ν
  rw [hs, hs, exp_sub _ (ht i), exp_sub _ (ht i)]
  have hκ := (Real.exp_pos (-κ)).ne'
  have hμ := (Real.exp_pos (-μ)).ne'
  rw [show (1 : EReal) = ((1 : ℝ) : EReal) from rfl, div_coe _ _ (mul_ne_zero hW.ne' hκ), div_coe _ _ (mul_ne_zero hW.ne' hμ),
    ← EReal.coe_mul]
  congr 1
  field_simp

end Cert.Proof.Value
end
-- ==== Proof.Total.lean ====
/- The kernel's result as one quotient of exponentials: an entry as the exponential of a score less eighteen, and the lane
   by lane sum as the sum of the row. -/
module

public import proofs.«01_k».proof.Proof.State
public import proofs.«01_k».proof.Proof.Noise
public import proofs.«01_k».proof.Proof.Softmax

@[expose] public section

noncomputable section

namespace Cert.Proof.Value

open Idealize.ShloMosaic Idealize.ShloMosaic.TcCoe
open Cert.KernelIdeal Cert.KernelIdeal.Gen

/-- The constant the kernel takes off a score is eighteen. -/
theorem shift_word : Ideal.ofBits .f32 0x41900000#32 = ((18 : ℝ) : EReal) := by
  simp [Ideal.ofBits, Ideal.ieee, -EReal.coe_mul]; norm_num

/-- The score of a row and a column under the scale `s`. -/
def scoreK (s : EReal) (x : S32x1000000.Idx → EReal) (r : Fin 32) (c : Fin 1000000) : EReal :=
  x (ix2 r c) * s + ((noiseR (bitsW (BitVec.ofNat 32 (1000000 * r.val + c.val + 42))) : ℝ) : EReal)

/-- An exponential as the kernel takes it, with its noise a real number. -/
theorem cell_eq (s x : EReal) (w : BitVec 32) :
    cell (F := Ideal) s x w = Ideal.exp (x * s + ((noiseR (bitsW w) : ℝ) : EReal) - ((18 : ℝ) : EReal)) := by
  have h : cell (F := Ideal) s x w = Ideal.exp ((x * s + noiseW (F := Ideal) w) - Ideal.ofBits .f32 0x41900000#32) := rfl
  rw [h, noiseW_real, shift_word]

/-- An entry of the array is the exponential of its score less eighteen. -/
theorem E_eq (s : EReal) (x : S32x1000000.Idx → EReal) (r : Fin 32) (c : Fin 1000000) :
    E s x r.val c.val = Ideal.exp (scoreK s x r c - ((18 : ℝ) : EReal)) := by
  unfold E scoreK
  rw [if_pos c.isLt, cell_eq, at2_fin]

/-- A sum taken lane by lane is the sum in order. -/
theorem sum_lanes (b : ℕ) (f : ℕ → EReal) : ∀ a : ℕ,
    ∑ l : Fin b, ∑ q ∈ Finset.range a, f (b * q + l.val) = ∑ n ∈ Finset.range (b * a), f n
  | 0 => by simp
  | a + 1 => by
    rw [Nat.mul_succ, Finset.sum_range_add, ← sum_lanes b f a, Finset.sum_range (fun i => f (b * a + i)), ← Finset.sum_add_distrib]
    exact Finset.sum_congr rfl fun l _ => Finset.sum_range_succ _ _

/-- A sum over more places than a bound past which every term is zero. -/
theorem sum_cut (n k : ℕ) (f : ℕ → EReal) (h : ∀ i, n ≤ i → f i = 0) :
    ∑ i ∈ Finset.range (n + k), f i = ∑ i : Fin n, f i.val := by
  rw [Finset.sum_range_add, Finset.sum_eq_zero (s := Finset.range k) fun i _ => h _ (Nat.le_add_right _ _), add_zero, Finset.sum_range]

/-- The total of a row is the sum of its entries. -/
theorem total_eq (s : EReal) (x : S32x1000000.Idx → EReal) (r : Fin 32) :
    total s x r.val = ∑ c : Fin 1000000, Ideal.exp (scoreK s x r c - ((18 : ℝ) : EReal)) := by
  have h : total s x r.val = ∑ n ∈ Finset.range (1280 * 800), E s x r.val n := sum_lanes 1280 (E s x r.val) 800
  have h' : 1280 * 800 = 1000000 + 24000 := by norm_num
  rw [h, h', sum_cut 1000000 24000 (E s x r.val) fun i hi => by unfold E; rw [if_neg (Nat.not_lt.2 hi)]]
  exact Finset.sum_congr rfl fun c _ => E_eq s x r c

/-- The kernel's result at a row and a column, by any real number `μ` in place of eighteen, when the row's scores hold no
    plus infinity and not minus infinity alone. -/
theorem Out_eq (s : EReal) (x : S32x1000000.Idx → EReal) (r : Fin 32) (ht : ∀ c, scoreK s x r c ≠ ⊤) (hb : ∃ c, scoreK s x r c ≠ ⊥)
    (μ : ℝ) (c : Fin 1000000) : Out s x r.val c.val
      = Ideal.div (Ideal.exp (scoreK s x r c - (μ : EReal))) (∑ c', Ideal.exp (scoreK s x r c' - (μ : EReal))) := by
  unfold Out
  rw [E_eq, total_eq]
  exact softmax (scoreK s x r) ht hb 18 μ c

end Cert.Proof.Value

end
-- ==== Proof.RefWord.lean ====
/- The reference's random words: its generator at an index is the kernel's, at the counter of the index. -/
module

public import proofs.«01_k».proof.Proof.RefTerms
public import proofs.«01_k».proof.Proof.Cell
public import Idealize.ShloMosaic.Lib.Pointwise

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo
open Cert.Proof.Value (rotW mixW four0W four1W bitsW)

variable {F : FTy → Type} [FloatOps F]

/-- A word spread over the result's shape. -/
abbrev spread {w : ℕ} (x : IVec S_ w) : IVec S32x1000000 w := broadcastInDim S32x1000000 ![] bcast_S_S32x1000000 x

/-- A round at an index. -/
theorem mix_apply (x y : IVec S32x1000000 32) (a b : BitVec 32) (ha : a.toNat < 32) (hb : b.toNat < 32) (j : S32x1000000.Idx) :
    xori x (ori (Host.shli y (spread (constantI S_ 32 a))) (Host.shrui y (spread (constantI S_ 32 b)))) j
      = mixW a b (x j) (y j) := by
  show IntOp.xori (x j) (IntOp.ori (IntOp.shli .host (y j) a) (IntOp.shrui .host (y j) b))
    = IntOp.xori (x j) (IntOp.ori (IntOp.shli .scalar (y j) a) (IntOp.shrui .scalar (y j) b))
  unfold IntOp.shli IntOp.shrui
  rw [if_pos ha, if_pos ha, if_pos hb, if_pos hb]

/-- A key's word and a number added after a round, at an index. -/
theorem inject_apply (x y : IVec S32x1000000 32) (a b : BitVec 32) (ha : a.toNat < 32) (hb : b.toNat < 32)
    (k : IVec S_ 32) (kv n : BitVec 32) (hk : ∀ j, k j = kv) (j : S32x1000000.Idx) :
    addi (addi (xori x (ori (Host.shli y (spread (constantI S_ 32 a))) (Host.shrui y (spread (constantI S_ 32 b))))) (spread k))
        (spread (constantI S_ 32 n)) j
      = Scalar.addi (mixW a b (x j) (y j)) (kv + n) := by
  rw [← mix_apply x y a b ha hb j]
  show _ + k _ + n = _ + (kv + n)
  rw [hk, BitVec.add_assoc]

/-- A key's word added to the first word, and the second word after it, at an index. -/
theorem key_apply (x y : IVec S32x1000000 32) (k : IVec S_ 32) (kv : BitVec 32) (hk : ∀ j, k j = kv) (j : S32x1000000.Idx) :
    addi (addi x (spread k)) y j = Scalar.addi (Scalar.addi (x j) kv) (y j) := by
  show x j + k _ + y j = x j + kv + y j
  rw [hk]

/-- The generator's key: the words 0 and 42, and the third word made of them. -/
theorem k5_apply (V0 : Valuation τ sig (Elt F)) (j : S_.Idx) : res_main_call0_v5 V0 j = 0#32 := by
  unfold res_main_call0_v5 res_main_v9 res_main_c
  pointwise
  rfl
/-- The second key word is 42. -/
theorem k7_apply (V0 : Valuation τ sig (Elt F)) (j : S_.Idx) : res_main_call0_v7 V0 j = 42#32 := by
  unfold res_main_call0_v7 res_main_v9 res_main_c
  pointwise
  rfl
/-- The third key word. -/
theorem w1_apply (V0 : Valuation τ sig (Elt F)) (j : S_.Idx) : res_main_call0_call0_v1 V0 j = 466689008#32 := by
  show IntOp.xori (IntOp.xori (res_main_call0_v5 V0 j) (res_main_call0_v7 V0 j)) 466688986#32 = _
  rw [k5_apply, k7_apply]; decide

/-- The counter of an index. -/
def at' (j : S32x1000000.Idx) : ℕ := 1000000 * (j 0).val + (j 1).val

/-- The place of an index fits in 32 bits. -/
theorem at'_lt (j : S32x1000000.Idx) : at' j < 2 ^ 32 := by
  have h0 : (j 0).val < 32 := (j 0).isLt
  have h1 : (j 1).val < 1000000 := (j 1).isLt
  unfold at'; omega

/-- The 64-bit counter of an index. -/
theorem k14_apply (V0 : Valuation τ sig (Elt F)) (j : S32x1000000.Idx) :
    res_main_call0_v14 V0 j = BitVec.ofNat 64 (at' j) := by
  show 1000000#64 * BitVec.ofNat 64 (j 0).val + 1#64 * BitVec.ofNat 64 (j 1).val = _
  rw [BitVec.one_mul, ← BitVec.ofNat_mul, ← BitVec.ofNat_add]
  rfl

/-- The second word at the start: the counter and 42. -/
theorem w5_apply (V0 : Valuation τ sig (Elt F)) (j : S32x1000000.Idx) :
    res_main_call0_call0_v5 V0 j = BitVec.ofNat 32 (at' j + 42) := by
  show (res_main_call0_v14 V0 j).setWidth 32 + res_main_call0_v7 V0 _ = _
  rw [k14_apply, k7_apply, BitVec.ofNat_add]
  congr 1
  apply BitVec.eq_of_toNat_eq
  rw [BitVec.toNat_setWidth, BitVec.toNat_ofNat, BitVec.toNat_ofNat]
  exact Nat.mod_mod_of_dvd _ (by decide)

/-- The first word at the start, once the second is added to it. -/
theorem w6_apply (V0 : Valuation τ sig (Elt F)) (j : S32x1000000.Idx) :
    res_main_call0_call0_v6 V0 j = BitVec.ofNat 32 (at' j + 42) := by
  show (IntOp.shrui .host (res_main_call0_v14 V0 j) 32#64).setWidth 32 + res_main_call0_v5 V0 _
    + res_main_call0_call0_v5 V0 j = _
  rw [k5_apply, w5_apply, k14_apply]
  have h : (IntOp.shrui .host (BitVec.ofNat 64 (at' j)) 32#64) = 0#64 := by
    have hl := at'_lt j
    unfold IntOp.shrui
    rw [if_pos (by decide)]
    apply BitVec.eq_of_toNat_eq
    rw [BitVec.ushiftRight_eq', BitVec.toNat_ushiftRight, BitVec.toNat_ofNat, Nat.shiftRight_eq_div_pow]
    show at' j % 2 ^ 64 / 2 ^ 32 = 0
    omega
  rw [h]
  show 0#32 + 0#32 + _ = _
  rw [BitVec.add_zero, BitVec.zero_add]

/-! Each word the generator makes, at an index, from the two before it. -/

/-- One round of the mixing, read at an index: the second word rotated and joined with the first. -/
theorem w12_apply (V0 : Valuation τ sig (Elt F)) (j : S32x1000000.Idx) :
    res_main_call0_call0_v12 V0 j = mixW 13#32 19#32 (res_main_call0_call0_v6 V0 j) (res_main_call0_call0_v5 V0 j) :=
  mix_apply _ _ _ _ (by decide) (by decide) j

/-- The sum of the two words before, read at an index. -/
theorem w13_apply (V0 : Valuation τ sig (Elt F)) (j : S32x1000000.Idx) :
    res_main_call0_call0_v13 V0 j = Scalar.addi (res_main_call0_call0_v6 V0 j) (res_main_call0_call0_v12 V0 j) := rfl

/-- One round of the mixing, read at an index: the second word rotated and joined with the first. -/
theorem w19_apply (V0 : Valuation τ sig (Elt F)) (j : S32x1000000.Idx) :
    res_main_call0_call0_v19 V0 j = mixW 15#32 17#32 (res_main_call0_call0_v13 V0 j) (res_main_call0_call0_v12 V0 j) :=
  mix_apply _ _ _ _ (by decide) (by decide) j

/-- The sum of the two words before, read at an index. -/
theorem w20_apply (V0 : Valuation τ sig (Elt F)) (j : S32x1000000.Idx) :
    res_main_call0_call0_v20 V0 j = Scalar.addi (res_main_call0_call0_v13 V0 j) (res_main_call0_call0_v19 V0 j) := rfl

/-- One round of the mixing, read at an index: the second word rotated and joined with the first. -/
theorem w26_apply (V0 : Valuation τ sig (Elt F)) (j : S32x1000000.Idx) :
    res_main_call0_call0_v26 V0 j = mixW 26#32 6#32 (res_main_call0_call0_v20 V0 j) (res_main_call0_call0_v19 V0 j) :=
  mix_apply _ _ _ _ (by decide) (by decide) j

/-- The sum of the two words before, read at an index. -/
theorem w27_apply (V0 : Valuation τ sig (Elt F)) (j : S32x1000000.Idx) :
    res_main_call0_call0_v27 V0 j = Scalar.addi (res_main_call0_call0_v20 V0 j) (res_main_call0_call0_v26 V0 j) := rfl

/-- One round of the mixing, read at an index: the second word rotated and joined with the first. -/
theorem w39_apply (V0 : Valuation τ sig (Elt F)) (j : S32x1000000.Idx) :
    res_main_call0_call0_v39 V0 j = Scalar.addi (mixW 6#32 26#32 (res_main_call0_call0_v27 V0 j) (res_main_call0_call0_v26 V0 j)) (466689008#32 + 1#32) := by
  unfold res_main_call0_call0_v39
  exact inject_apply _ _ _ _ (by decide) (by decide) _ _ _ (w1_apply V0) j

/-- A word of the mixing with a key word added, read at an index. -/
theorem w40_apply (V0 : Valuation τ sig (Elt F)) (j : S32x1000000.Idx) :
    res_main_call0_call0_v40 V0 j = Scalar.addi (Scalar.addi (res_main_call0_call0_v27 V0 j) 42#32) (res_main_call0_call0_v39 V0 j) := by
  unfold res_main_call0_call0_v40
  exact key_apply _ _ _ _ (k7_apply V0) j

/-- One round of the mixing, read at an index: the second word rotated and joined with the first. -/
theorem w46_apply (V0 : Valuation τ sig (Elt F)) (j : S32x1000000.Idx) :
    res_main_call0_call0_v46 V0 j = mixW 17#32 15#32 (res_main_call0_call0_v40 V0 j) (res_main_call0_call0_v39 V0 j) :=
  mix_apply _ _ _ _ (by decide) (by decide) j

/-- The sum of the two words before, read at an index. -/
theorem w47_apply (V0 : Valuation τ sig (Elt F)) (j : S32x1000000.Idx) :
    res_main_call0_call0_v47 V0 j = Scalar.addi (res_main_call0_call0_v40 V0 j) (res_main_call0_call0_v46 V0 j) := rfl

/-- One round of the mixing, read at an index: the second word rotated and joined with the first. -/
theorem w53_apply (V0 : Valuation τ sig (Elt F)) (j : S32x1000000.Idx) :
    res_main_call0_call0_v53 V0 j = mixW 29#32 3#32 (res_main_call0_call0_v47 V0 j) (res_main_call0_call0_v46 V0 j) :=
  mix_apply _ _ _ _ (by decide) (by decide) j

/-- The sum of the two words before, read at an index. -/
theorem w54_apply (V0 : Valuation τ sig (Elt F)) (j : S32x1000000.Idx) :
    res_main_call0_call0_v54 V0 j = Scalar.addi (res_main_call0_call0_v47 V0 j) (res_main_call0_call0_v53 V0 j) := rfl

/-- One round of the mixing, read at an index: the second word rotated and joined with the first. -/
theorem w60_apply (V0 : Valuation τ sig (Elt F)) (j : S32x1000000.Idx) :
    res_main_call0_call0_v60 V0 j = mixW 16#32 16#32 (res_main_call0_call0_v54 V0 j) (res_main_call0_call0_v53 V0 j) :=
  mix_apply _ _ _ _ (by decide) (by decide) j

/-- The sum of the two words before, read at an index. -/
theorem w61_apply (V0 : Valuation τ sig (Elt F)) (j : S32x1000000.Idx) :
    res_main_call0_call0_v61 V0 j = Scalar.addi (res_main_call0_call0_v54 V0 j) (res_main_call0_call0_v60 V0 j) := rfl

/-- One round of the mixing, read at an index: the second word rotated and joined with the first. -/
theorem w73_apply (V0 : Valuation τ sig (Elt F)) (j : S32x1000000.Idx) :
    res_main_call0_call0_v73 V0 j = Scalar.addi (mixW 24#32 8#32 (res_main_call0_call0_v61 V0 j) (res_main_call0_call0_v60 V0 j)) (0#32 + 2#32) := by
  unfold res_main_call0_call0_v73
  exact inject_apply _ _ _ _ (by decide) (by decide) _ _ _ (k5_apply V0) j

/-- A word of the mixing with a key word added, read at an index. -/
theorem w74_apply (V0 : Valuation τ sig (Elt F)) (j : S32x1000000.Idx) :
    res_main_call0_call0_v74 V0 j = Scalar.addi (Scalar.addi (res_main_call0_call0_v61 V0 j) 466689008#32) (res_main_call0_call0_v73 V0 j) := by
  unfold res_main_call0_call0_v74
  exact key_apply _ _ _ _ (w1_apply V0) j

/-- One round of the mixing, read at an index: the second word rotated and joined with the first. -/
theorem w80_apply (V0 : Valuation τ sig (Elt F)) (j : S32x1000000.Idx) :
    res_main_call0_call0_v80 V0 j = mixW 13#32 19#32 (res_main_call0_call0_v74 V0 j) (res_main_call0_call0_v73 V0 j) :=
  mix_apply _ _ _ _ (by decide) (by decide) j

/-- The sum of the two words before, read at an index. -/
theorem w81_apply (V0 : Valuation τ sig (Elt F)) (j : S32x1000000.Idx) :
    res_main_call0_call0_v81 V0 j = Scalar.addi (res_main_call0_call0_v74 V0 j) (res_main_call0_call0_v80 V0 j) := rfl

/-- One round of the mixing, read at an index: the second word rotated and joined with the first. -/
theorem w87_apply (V0 : Valuation τ sig (Elt F)) (j : S32x1000000.Idx) :
    res_main_call0_call0_v87 V0 j = mixW 15#32 17#32 (res_main_call0_call0_v81 V0 j) (res_main_call0_call0_v80 V0 j) :=
  mix_apply _ _ _ _ (by decide) (by decide) j

/-- The sum of the two words before, read at an index. -/
theorem w88_apply (V0 : Valuation τ sig (Elt F)) (j : S32x1000000.Idx) :
    res_main_call0_call0_v88 V0 j = Scalar.addi (res_main_call0_call0_v81 V0 j) (res_main_call0_call0_v87 V0 j) := rfl

/-- One round of the mixing, read at an index: the second word rotated and joined with the first. -/
theorem w94_apply (V0 : Valuation τ sig (Elt F)) (j : S32x1000000.Idx) :
    res_main_call0_call0_v94 V0 j = mixW 26#32 6#32 (res_main_call0_call0_v88 V0 j) (res_main_call0_call0_v87 V0 j) :=
  mix_apply _ _ _ _ (by decide) (by decide) j

/-- The sum of the two words before, read at an index. -/
theorem w95_apply (V0 : Valuation τ sig (Elt F)) (j : S32x1000000.Idx) :
    res_main_call0_call0_v95 V0 j = Scalar.addi (res_main_call0_call0_v88 V0 j) (res_main_call0_call0_v94 V0 j) := rfl

/-- One round of the mixing, read at an index: the second word rotated and joined with the first. -/
theorem w107_apply (V0 : Valuation τ sig (Elt F)) (j : S32x1000000.Idx) :
    res_main_call0_call0_v107 V0 j = Scalar.addi (mixW 6#32 26#32 (res_main_call0_call0_v95 V0 j) (res_main_call0_call0_v94 V0 j)) (42#32 + 3#32) := by
  unfold res_main_call0_call0_v107
  exact inject_apply _ _ _ _ (by decide) (by decide) _ _ _ (k7_apply V0) j

/-- A word of the mixing with a key word added, read at an index. -/
theorem w108_apply (V0 : Valuation τ sig (Elt F)) (j : S32x1000000.Idx) :
    res_main_call0_call0_v108 V0 j = Scalar.addi (Scalar.addi (res_main_call0_call0_v95 V0 j) 0#32) (res_main_call0_call0_v107 V0 j) := by
  unfold res_main_call0_call0_v108
  exact key_apply _ _ _ _ (k5_apply V0) j

/-- One round of the mixing, read at an index: the second word rotated and joined with the first. -/
theorem w114_apply (V0 : Valuation τ sig (Elt F)) (j : S32x1000000.Idx) :
    res_main_call0_call0_v114 V0 j = mixW 17#32 15#32 (res_main_call0_call0_v108 V0 j) (res_main_call0_call0_v107 V0 j) :=
  mix_apply _ _ _ _ (by decide) (by decide) j

/-- The sum of the two words before, read at an index. -/
theorem w115_apply (V0 : Valuation τ sig (Elt F)) (j : S32x1000000.Idx) :
    res_main_call0_call0_v115 V0 j = Scalar.addi (res_main_call0_call0_v108 V0 j) (res_main_call0_call0_v114 V0 j) := rfl

/-- One round of the mixing, read at an index: the second word rotated and joined with the first. -/
theorem w121_apply (V0 : Valuation τ sig (Elt F)) (j : S32x1000000.Idx) :
    res_main_call0_call0_v121 V0 j = mixW 29#32 3#32 (res_main_call0_call0_v115 V0 j) (res_main_call0_call0_v114 V0 j) :=
  mix_apply _ _ _ _ (by decide) (by decide) j

/-- The sum of the two words before, read at an index. -/
theorem w122_apply (V0 : Valuation τ sig (Elt F)) (j : S32x1000000.Idx) :
    res_main_call0_call0_v122 V0 j = Scalar.addi (res_main_call0_call0_v115 V0 j) (res_main_call0_call0_v121 V0 j) := rfl

/-- One round of the mixing, read at an index: the second word rotated and joined with the first. -/
theorem w128_apply (V0 : Valuation τ sig (Elt F)) (j : S32x1000000.Idx) :
    res_main_call0_call0_v128 V0 j = mixW 16#32 16#32 (res_main_call0_call0_v122 V0 j) (res_main_call0_call0_v121 V0 j) :=
  mix_apply _ _ _ _ (by decide) (by decide) j

/-- The sum of the two words before, read at an index. -/
theorem w129_apply (V0 : Valuation τ sig (Elt F)) (j : S32x1000000.Idx) :
    res_main_call0_call0_v129 V0 j = Scalar.addi (res_main_call0_call0_v122 V0 j) (res_main_call0_call0_v128 V0 j) := rfl

/-- One round of the mixing, read at an index: the second word rotated and joined with the first. -/
theorem w141_apply (V0 : Valuation τ sig (Elt F)) (j : S32x1000000.Idx) :
    res_main_call0_call0_v141 V0 j = Scalar.addi (mixW 24#32 8#32 (res_main_call0_call0_v129 V0 j) (res_main_call0_call0_v128 V0 j)) (466689008#32 + 4#32) := by
  unfold res_main_call0_call0_v141
  exact inject_apply _ _ _ _ (by decide) (by decide) _ _ _ (w1_apply V0) j

/-- A word of the mixing with a key word added, read at an index. -/
theorem w142_apply (V0 : Valuation τ sig (Elt F)) (j : S32x1000000.Idx) :
    res_main_call0_call0_v142 V0 j = Scalar.addi (Scalar.addi (res_main_call0_call0_v129 V0 j) 42#32) (res_main_call0_call0_v141 V0 j) := by
  unfold res_main_call0_call0_v142
  exact key_apply _ _ _ _ (k7_apply V0) j

/-- One round of the mixing, read at an index: the second word rotated and joined with the first. -/
theorem w148_apply (V0 : Valuation τ sig (Elt F)) (j : S32x1000000.Idx) :
    res_main_call0_call0_v148 V0 j = mixW 13#32 19#32 (res_main_call0_call0_v142 V0 j) (res_main_call0_call0_v141 V0 j) :=
  mix_apply _ _ _ _ (by decide) (by decide) j

/-- The sum of the two words before, read at an index. -/
theorem w149_apply (V0 : Valuation τ sig (Elt F)) (j : S32x1000000.Idx) :
    res_main_call0_call0_v149 V0 j = Scalar.addi (res_main_call0_call0_v142 V0 j) (res_main_call0_call0_v148 V0 j) := rfl

/-- One round of the mixing, read at an index: the second word rotated and joined with the first. -/
theorem w155_apply (V0 : Valuation τ sig (Elt F)) (j : S32x1000000.Idx) :
    res_main_call0_call0_v155 V0 j = mixW 15#32 17#32 (res_main_call0_call0_v149 V0 j) (res_main_call0_call0_v148 V0 j) :=
  mix_apply _ _ _ _ (by decide) (by decide) j

/-- The sum of the two words before, read at an index. -/
theorem w156_apply (V0 : Valuation τ sig (Elt F)) (j : S32x1000000.Idx) :
    res_main_call0_call0_v156 V0 j = Scalar.addi (res_main_call0_call0_v149 V0 j) (res_main_call0_call0_v155 V0 j) := rfl

/-- One round of the mixing, read at an index: the second word rotated and joined with the first. -/
theorem w162_apply (V0 : Valuation τ sig (Elt F)) (j : S32x1000000.Idx) :
    res_main_call0_call0_v162 V0 j = mixW 26#32 6#32 (res_main_call0_call0_v156 V0 j) (res_main_call0_call0_v155 V0 j) :=
  mix_apply _ _ _ _ (by decide) (by decide) j

/-- The sum of the two words before, read at an index. -/
theorem w163_apply (V0 : Valuation τ sig (Elt F)) (j : S32x1000000.Idx) :
    res_main_call0_call0_v163 V0 j = Scalar.addi (res_main_call0_call0_v156 V0 j) (res_main_call0_call0_v162 V0 j) := rfl

/-- The random words. -/
def words (V0 : Valuation τ sig (Elt F)) : IVec S32x1000000 32 :=
  xori (addi (res_main_call0_call0_v163 V0) (spread (res_main_call0_call0_v1 V0)))
    (addi (addi (xori (res_main_call0_call0_v163 V0) (ori (Host.shli (res_main_call0_call0_v162 V0) (spread (constantI S_ 32 6#32)))
      (Host.shrui (res_main_call0_call0_v162 V0) (spread (constantI S_ 32 26#32))))) (spread (res_main_call0_v5 V0)))
      (spread (constantI S_ 32 5#32)))

/-- One round of the mixing, read at an index: the second word rotated and joined with the first. -/
theorem words_last (V0 : Valuation τ sig (Elt F)) (j : S32x1000000.Idx) :
    words V0 j = Scalar.xori (Scalar.addi (res_main_call0_call0_v163 V0 j) 466689008#32)
      (Scalar.addi (mixW 6#32 26#32 (res_main_call0_call0_v163 V0 j) (res_main_call0_call0_v162 V0 j)) (0#32 + 5#32)) := by
  rw [← inject_apply _ _ _ _ (by decide) (by decide) _ _ _ (k5_apply V0) j, ← w1_apply V0 (fun a => a.elim0)]
  rfl

/-- The kernel's word from the words of its five groups of rounds. -/
theorem bitsW_of {w x1 y1 s1 x2 y2 s2 x3 y3 s3 x4 y4 s4 x5 y5 : BitVec 32}
    (hx1 : x1 = Scalar.addi (four0W 13#32 19#32 15#32 17#32 26#32 6#32 w w) 42#32)
    (hy1 : y1 = Scalar.addi (four1W 13#32 19#32 15#32 17#32 26#32 6#32 6#32 26#32 w w) 466689009#32)
    (hs1 : s1 = Scalar.addi x1 y1)
    (hx2 : x2 = Scalar.addi (four0W 17#32 15#32 29#32 3#32 16#32 16#32 s1 y1) 466689008#32)
    (hy2 : y2 = Scalar.addi (four1W 17#32 15#32 29#32 3#32 16#32 16#32 24#32 8#32 s1 y1) 2#32)
    (hs2 : s2 = Scalar.addi x2 y2)
    (hx3 : x3 = Scalar.addi (four0W 13#32 19#32 15#32 17#32 26#32 6#32 s2 y2) 0#32)
    (hy3 : y3 = Scalar.addi (four1W 13#32 19#32 15#32 17#32 26#32 6#32 6#32 26#32 s2 y2) 45#32)
    (hs3 : s3 = Scalar.addi x3 y3)
    (hx4 : x4 = Scalar.addi (four0W 17#32 15#32 29#32 3#32 16#32 16#32 s3 y3) 42#32)
    (hy4 : y4 = Scalar.addi (four1W 17#32 15#32 29#32 3#32 16#32 16#32 24#32 8#32 s3 y3) 466689012#32)
    (hs4 : s4 = Scalar.addi x4 y4)
    (hx5 : x5 = Scalar.addi (four0W 13#32 19#32 15#32 17#32 26#32 6#32 s4 y4) 466689008#32)
    (hy5 : y5 = Scalar.addi (four1W 13#32 19#32 15#32 17#32 26#32 6#32 6#32 26#32 s4 y4) 5#32) :
    Scalar.xori x5 y5 = bitsW w := by
  subst hx5 hy5 hs4 hx4 hy4 hs3 hx3 hy3 hs2 hx2 hy2 hs1 hx1 hy1
  rfl

/-- The reference's random word at an index is the kernel's at its counter. -/
theorem words_apply (V0 : Valuation τ sig (Elt F)) (j : S32x1000000.Idx) :
    words V0 j = bitsW (BitVec.ofNat 32 (at' j + 42)) := by
  rw [words_last]
  refine bitsW_of (x1 := Scalar.addi (res_main_call0_call0_v27 V0 j) 42#32) (y1 := res_main_call0_call0_v39 V0 j)
    (s1 := res_main_call0_call0_v40 V0 j)
    (x2 := Scalar.addi (res_main_call0_call0_v61 V0 j) 466689008#32) (y2 := res_main_call0_call0_v73 V0 j)
    (s2 := res_main_call0_call0_v74 V0 j)
    (x3 := Scalar.addi (res_main_call0_call0_v95 V0 j) 0#32) (y3 := res_main_call0_call0_v107 V0 j)
    (s3 := res_main_call0_call0_v108 V0 j)
    (x4 := Scalar.addi (res_main_call0_call0_v129 V0 j) 42#32) (y4 := res_main_call0_call0_v141 V0 j)
    (s4 := res_main_call0_call0_v142 V0 j) ?_ ?_ ?_ ?_ ?_ ?_ ?_ ?_ ?_ ?_ ?_ ?_ ?_ ?_
  · unfold four0W
    rw [w27_apply, w26_apply, w20_apply, w19_apply, w13_apply, w12_apply, w6_apply, w5_apply]
  · unfold four1W
    rw [w39_apply, w27_apply, w26_apply, w20_apply, w19_apply, w13_apply, w12_apply, w6_apply, w5_apply]; rfl
  · exact w40_apply V0 j
  · unfold four0W
    rw [w61_apply, w60_apply, w54_apply, w53_apply, w47_apply, w46_apply]
  · unfold four1W
    rw [w73_apply, w61_apply, w60_apply, w54_apply, w53_apply, w47_apply, w46_apply]; rfl
  · exact w74_apply V0 j
  · unfold four0W
    rw [w95_apply, w94_apply, w88_apply, w87_apply, w81_apply, w80_apply]
  · unfold four1W
    rw [w107_apply, w95_apply, w94_apply, w88_apply, w87_apply, w81_apply, w80_apply]; rfl
  · exact w108_apply V0 j
  · unfold four0W
    rw [w129_apply, w128_apply, w122_apply, w121_apply, w115_apply, w114_apply]
  · unfold four1W
    rw [w141_apply, w129_apply, w128_apply, w122_apply, w121_apply, w115_apply, w114_apply]; rfl
  · exact w142_apply V0 j
  · unfold four0W
    rw [w163_apply, w162_apply, w156_apply, w155_apply, w149_apply, w148_apply]
  · unfold four1W
    rw [w163_apply, w162_apply, w156_apply, w155_apply, w149_apply, w148_apply]; rfl

end Cert.Proof.Ref
end
-- ==== Proof.RefScore.lean ====
/- The reference's scores read at an index: the logit times the exponential of the temperature, and the noise. -/
module

public import proofs.«01_k».proof.Proof.RefWord
public import proofs.«01_k».proof.Proof.Noise
public import proofs.«01_k».proof.Proof.Softmax

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo
open Cert.Proof.Value (bitsW noiseR frac unif unif_real unif_nonneg logs_real)

/-- The logits and the temperature. -/
abbrev X0 (V0 : Valuation τ sig (Elt Ideal)) : S32x1000000.Idx → EReal := V0 (Proc.devRef .tc main_arg0)
/-- The temperature. -/
abbrev T0 (V0 : Valuation τ sig (Elt Ideal)) : S_.Idx → EReal := V0 (Proc.devRef .tc main_arg1)

/-- The score of an index. -/
def score (V0 : Valuation τ sig (Elt Ideal)) (j : S32x1000000.Idx) : EReal :=
  X0 V0 j * Ideal.exp (T0 V0 ix0) + ((noiseR (bitsW (BitVec.ofNat 32 (at' j + 42))) : ℝ) : EReal)

/-- A number, or a one-element array, spread over the result's shape. -/
abbrev spreadF (x : FVec Ideal S_ .f32) : FVec Ideal S32x1000000 .f32 := broadcastInDim S32x1000000 ![] bcast_S_S32x1000000 x
/-- A one-element array spread over the result's shape. -/
abbrev spread1 (x : FVec Ideal S1x1 .f32) : FVec Ideal S32x1000000 .f32 :=
  broadcastInDim S32x1000000 ![0, 1] bcast_S1x1_S32x1000000_0_1 x

/-- The reference's scores from the logits, the temperature, the random words and a zero. -/
def scores (x : FVec Ideal S32x1000000 .f32) (t : FVec Ideal S_ .f32) (w : IVec S32x1000000 32) (z : FVec Ideal S1x1 .f32) :
    FVec Ideal S32x1000000 .f32 :=
  Host.divf (addf (mulf x (spreadF (Host.exp t))) (Host.negf (Host.log (addf (Host.negf (Host.log (addf (maximumf
    (spread1 z) (addf (mulf (subf (bitcastToFloat .f32 (ori (Host.shrui w (spread (constantI S_ 32 9#32))) (spread
    (constantI S_ 32 1065353216#32)))) (spreadF (constant S_ .f32 0x3F800000#32))) (spread1 (subf (broadcastInDim S1x1 ![]
    bcast_S_S1x1 (id (constant S_ .f32 0x3F800000#32))) z))) (spread1 z))) (spreadF (constant S_ .f32 0x2EDBE6FF#32)))))
    (spreadF (constant S_ .f32 0x2EDBE6FF#32)))))) (spreadF (constant S_ .f32 0x3F800000#32))

/-- The program's scores are `scores` of its arguments and its random words. -/
theorem v21_eq (V0 : Valuation τ sig (Elt Ideal)) :
    res_main_v21 V0 = scores (X0 V0) (T0 V0) (words V0) (broadcastInDim S1x1 ![] bcast_S_S1x1 (id (constant S_ .f32 0x00000000#32))) := by
  unfold res_main_v21 scores words res_main_call0_v2
  rfl

/-- The scores read at an index. -/
theorem scores_apply (x : FVec Ideal S32x1000000 .f32) (t : FVec Ideal S_ .f32) (w : IVec S32x1000000 32) (j : S32x1000000.Idx) :
    scores x t w (broadcastInDim S1x1 ![] bcast_S_S1x1 (id (constant S_ .f32 0x00000000#32))) j
      = Ideal.div (x j * Ideal.exp (t ix0)
      + -Ideal.log (-Ideal.log (max (Ideal.ofBits .f32 0x00000000#32)
        ((Ideal.ofBits .f32 (IntOp.ori (IntOp.shrui .host (w j) 9#32) 1065353216#32) - Ideal.ofBits .f32 0x3F800000#32)
          * (Ideal.ofBits .f32 0x3F800000#32 - Ideal.ofBits .f32 0x00000000#32) + Ideal.ofBits .f32 0x00000000#32)
        + Ideal.ofBits .f32 0x2EDBE6FF#32) + Ideal.ofBits .f32 0x2EDBE6FF#32)) (Ideal.ofBits .f32 0x3F800000#32) := by
  have e : spreadF (Host.exp t) j = Ideal.exp (t ix0) := congrArg (fun k => Ideal.exp (t k)) (funext fun a => a.elim0)
  rw [← e]
  rfl

/-- The reference's scores. -/
theorem score_apply (V0 : Valuation τ sig (Elt Ideal)) (j : S32x1000000.Idx) : res_main_v21 V0 j = score V0 j := by
  rw [v21_eq, scores_apply]
  have hs : IntOp.ori (IntOp.shrui .host (words V0 j) 9#32) 1065353216#32 = (words V0 j >>> 9) ||| 1065353216#32 := rfl
  have hp := unif_nonneg (words V0 j)
  rw [hs, unif_real, Ideal.ofBits_zero_f32, Ideal.ofBits_one_f32, sub_zero, mul_one, add_zero,
    max_eq_right (by exact_mod_cast hp), logs_real, words_apply]
  unfold score Ideal.div
  rw [if_neg one_ne_zero, inv_one, mul_one]

end Cert.Proof.Ref
end
-- ==== Proof.RefResult.lean ====
/- The reference's result read at an index: the exponential of the score less the row's peak, over the row's sum of them. -/
module

public import proofs.«01_k».proof.Proof.RefScore

@[expose] public section

set_option maxRecDepth 8192

noncomputable section

namespace Cert.Proof.Ref

open Cert.ReferenceIdeal Cert.ReferenceIdeal.Gen Idealize.ShloMosaic Idealize.ShloMosaic.TcCoe Idealize.SL.Sem Idealize.ShloMosaic.StableHlo

/-- The rank-1 index of a row. -/
abbrev rowIx (j : S32x1000000.Idx) : S32.Idx := ix1 (j 0)

/-- A number per row, spread along the row. -/
abbrev along (y : FVec Ideal S32 .f32) : FVec Ideal S32x1000000 .f32 :=
  broadcastInDim S32x1000000 ![0, 1] bcast_S32x1_S32x1000000_0_1 (broadcastInDim S32x1 ![0] bcast_S32_S32x1_0 y)

/-- It is that row's number at every index of the row. -/
theorem along_apply (y : FVec Ideal S32 .f32) (j : S32x1000000.Idx) : along y j = y (ix1 (j 0)) := by
  unfold along
  pointwise

/-- The greatest entry of a row, at least minus infinity. -/
def peak (z : FVec Ideal S32x1000000 .f32) (r : Fin 32) : EReal :=
  (Finset.univ : Finset (Fin 1000000)).fold max ⊥ fun c => z (ix2 r c)

/-- The word of minus infinity. -/
theorem neg_inf : Ideal.ofBits .f32 0xFF800000#32 = ⊥ := by simp [Ideal.ofBits, Ideal.ieee]

/-- Taking the columns out of the array leaves its rows. -/
theorem reduces : S32x1000000.Reduces [1] S32 := by decide

/-- The index of a row and a column put back together. -/
theorem lift_eq (j : S32.Idx) (c : Fin 1000000) : reduces.lift j c = ix2 (j 0) c := by
  funext a; fin_cases a <;> rfl

/-- The row maximum the reference takes, read at a row. -/
theorem max_apply (z : FVec Ideal S32x1000000 .f32) (r : S32.Idx) :
    Host.reduce FloatOps.maximumf z (constant S_ .f32 0xFF800000#32) reducesTo_S32x1000000_S32_d1 h_S_ r = peak z (r 0) := by
  rw [Host.reduce_eq_fold_single FloatOps.maximumf z _ reducesTo_S32x1000000_S32_d1 reduces h_S_ r]
  have e : (constant S_ .f32 0xFF800000#32 : FVec Ideal S_ .f32) (Shape.Idx.first h_S_) = (⊥ : EReal) := neg_inf
  have e' : z ∘ reduces.lift r = fun c => z (ix2 (r 0) c) := funext fun c => congrArg z (lift_eq r c)
  rw [e, e']
  rfl

/-- The row sum the reference takes, read at a row. -/
theorem sum_apply (z : FVec Ideal S32x1000000 .f32) (r : S32.Idx) :
    Host.reduceAdd z (constant S_ .f32 0x00000000#32) reducesTo_S32x1000000_S32_d1 h_S_ r
      = ∑ c : Fin 1000000, (z (ix2 (r 0) c) : EReal) := by
  refine (Ideal.hostReduceAdd_single reducesTo_S32x1000000_S32_d1 reduces z _ r).trans ?_
  have e : (constant S_ .f32 0x00000000#32 : FVec Ideal S_ .f32) (Shape.Idx.first h_S_) = (0 : EReal) := Ideal.ofBits_zero_f32
  rw [e, zero_add]
  exact Finset.sum_congr rfl fun c _ => congrArg z (lift_eq r c)

/-- The exponentials of the scores less the row's peak. -/
def expoR (z : FVec Ideal S32x1000000 .f32) : FVec Ideal S32x1000000 .f32 :=
  Host.exp (subf z (along (maximumf (broadcastInDim S32 ![] bcast_S_S32 (constant S_ .f32 0xFF800000#32))
    (Host.reduce FloatOps.maximumf z (constant S_ .f32 0xFF800000#32) reducesTo_S32x1000000_S32_d1 h_S_))))

/-- The exponential of a difference, read at an index. -/
theorem exp_apply (z y : FVec Ideal S32x1000000 .f32) (j : S32x1000000.Idx) :
    (Host.exp (subf z y) : FVec Ideal S32x1000000 .f32) j = Ideal.exp (z j - y j) := rfl

/-- The greater of minus infinity and a number is the number. -/
theorem above_apply (y : FVec Ideal S32 .f32) (r : S32.Idx) :
    (maximumf (broadcastInDim S32 ![] bcast_S_S32 (constant S_ .f32 0xFF800000#32)) y : FVec Ideal S32 .f32) r = y r := by
  have h : (maximumf (broadcastInDim S32 ![] bcast_S_S32 (constant S_ .f32 0xFF800000#32)) y : FVec Ideal S32 .f32) r
      = max (Ideal.ofBits .f32 0xFF800000#32) (y r) := rfl
  rw [h, neg_inf]
  exact max_eq_right bot_le

/-- An exponential of the reference, read at an index. -/
theorem expoR_apply (z : FVec Ideal S32x1000000 .f32) (j : S32x1000000.Idx) :
    expoR z j = Ideal.exp (z j - peak z (j 0)) := by
  unfold expoR
  have h : (ix1 (j 0) : S32.Idx) 0 = j 0 := rfl
  rw [exp_apply, along_apply, above_apply, max_apply, h]

/-- A quotient read at an index. -/
theorem div_apply (z y : FVec Ideal S32x1000000 .f32) (j : S32x1000000.Idx) :
    (Host.divf z y : FVec Ideal S32x1000000 .f32) j = Ideal.div (z j) (y j) := rfl

/-- The softmax the reference takes of its scores, read at an index. -/
theorem soft_apply (z : FVec Ideal S32x1000000 .f32) (j : S32x1000000.Idx) :
    Host.divf (expoR z) (along (Host.reduceAdd (expoR z) (constant S_ .f32 0x00000000#32) reducesTo_S32x1000000_S32_d1 h_S_)) j
      = Ideal.div (Ideal.exp (z j - peak z (j 0))) (∑ c : Fin 1000000, Ideal.exp (z (ix2 (j 0) c) - peak z (j 0))) := by
  have h : (ix1 (j 0) : S32.Idx) 0 = j 0 := rfl
  rw [div_apply, along_apply, expoR_apply, sum_apply, h]
  refine congrArg (Ideal.div _) ?_
  refine Finset.sum_congr rfl fun c _ => ?_
  have h' : (ix2 (j 0) c : S32x1000000.Idx) 0 = j 0 := rfl
  rw [expoR_apply, h']

/-- The peak of a row that holds no plus infinity, and not minus infinity alone, is a real number. -/
theorem peak_real (z : FVec Ideal S32x1000000 .f32) (r : Fin 32) (ht : ∀ c : Fin 1000000, z (ix2 r c) ≠ (⊤ : EReal))
    (hb : ∃ c : Fin 1000000, z (ix2 r c) ≠ (⊥ : EReal)) : ∃ μ : ℝ, peak z r = (μ : EReal) := by
  have h1 : peak z r ≠ ⊤ := by
    refine ne_of_lt ?_
    exact (Finset.fold_max_lt _).2 ⟨bot_lt_top, fun c _ => lt_top_iff_ne_top.2 (ht c)⟩
  have h2 : peak z r ≠ ⊥ := by
    obtain ⟨c, hc⟩ := hb
    refine ne_of_gt (lt_of_lt_of_le (bot_lt_iff_ne_bot.2 hc) ?_)
    exact (Finset.le_fold_max _).2 (Or.inr ⟨c, Finset.mem_univ _, le_refl _⟩)
  exact ⟨(peak z r).toReal, (EReal.coe_toReal h1 h2).symm⟩

/-- The reference's result. -/
def refOf (V0 : Valuation τ sig (Elt Ideal)) (j : S32x1000000.Idx) : EReal :=
  Ideal.div (Ideal.exp (score V0 j - peak (score V0) (j 0))) (∑ c : Fin 1000000, Ideal.exp (score V0 (ix2 (j 0) c) - peak (score V0) (j 0)))

/-- The reference's result term is `refOf`. -/
theorem res_apply (V0 : Valuation τ sig (Elt Ideal)) :
    Host.divf (res_main_v28 V0) (broadcastInDim S32x1000000 ![0, 1] bcast_S32x1_S32x1000000_0_1 (broadcastInDim S32x1 ![0]
      bcast_S32_S32x1_0 (Host.reduceAdd (res_main_v28 V0) (constant S_ .f32 0x00000000#32) reducesTo_S32x1000000_S32_d1 h_S_)))
      = refOf V0 := by
  have h : res_main_v21 V0 = score V0 := funext (score_apply V0)
  have h8 : res_main_v28 V0 = expoR (score V0) := by
    rw [← h]; unfold res_main_v28; rfl
  rw [h8]
  exact funext fun j => soft_apply (score V0) j

end Cert.Proof.Ref

end
-- ==== Proof.Pre.lean ====
/- What the precondition says of the logits and the temperature, as a sentence about their entries. -/
module

public import proofs.«01_k».proof.Pre_scores_below_infinity
public import Idealize.ShloMosaic.PureOps.Ideal
public import Idealize.ShloMosaic.Lib.Pointwise
public import Idealize.ShloMosaic.Lib.IdealHost

@[expose] public section

set_option maxRecDepth 8192

noncomputable section

namespace Cert.Proof.Pre

open Cert.Pre_scores_below_infinity Idealize.ShloMosaic

/-- The shape relations the precondition states. -/
theorem facts : Facts where
  bcast_S_S32x1000000 := by decide
  reducesTo_S32x1000000_S32_d1 := by decide
  h_S_ := by decide
  bcast_S32_S32x1_0 := by decide
  bcast_S_S32x1 := by decide
  bcast_S32x1_S32x1000000_0_1 := by decide

section
variable [Facts]
open Facts

/-- The word of plus infinity. -/
theorem pos_inf : Ideal.ofBits .f32 0x7F800000#32 = ⊤ := by simp [Ideal.ofBits, Ideal.ieee]
/-- The word of minus infinity. -/
theorem neg_inf : Ideal.ofBits .f32 0xFF800000#32 = ⊥ := by simp [Ideal.ofBits, Ideal.ieee]

/-- Taking the columns out of the array leaves its rows. -/
theorem reduces : S32x1000000.Reduces [1] S32 := by decide

/-- The index of a row and a column put back together. -/
theorem lift_eq (j : S32.Idx) (c : Fin 1000000) : reduces.lift j c = ix2 (j 0) c := by
  funext a; fin_cases a <;> rfl

/-- The row maximum, read at a row. -/
theorem max_apply (z : FVec Ideal S32x1000000 .f32) (r : S32.Idx) :
    Host.reduce FloatOps.maximumf z (constant S_ .f32 0xFF800000#32) reducesTo_S32x1000000_S32_d1 h_S_ r
      = (Finset.univ : Finset (Fin 1000000)).fold max (⊥ : EReal) fun c => z (ix2 (r 0) c) := by
  rw [Host.reduce_eq_fold_single FloatOps.maximumf z _ reducesTo_S32x1000000_S32_d1 reduces h_S_ r]
  have e : (constant S_ .f32 0xFF800000#32 : FVec Ideal S_ .f32) (Shape.Idx.first h_S_) = (⊥ : EReal) := neg_inf
  have e' : z ∘ reduces.lift r = fun c => z (ix2 (r 0) c) := funext fun c => congrArg z (lift_eq r c)
  rw [e, e']
  rfl

/-- The scaled logits. -/
def scaled (x : FVec Ideal S32x1000000 .f32) (t : FVec Ideal S_ .f32) : FVec Ideal S32x1000000 .f32 :=
  mulf x (broadcastInDim S32x1000000 ![] bcast_S_S32x1000000 (Host.exp t))

/-- A scaled logit read at an index. -/
theorem scaled_apply (x : FVec Ideal S32x1000000 .f32) (t : FVec Ideal S_ .f32) (j : S32x1000000.Idx) :
    scaled x t j = ((x j : EReal) * Ideal.exp (t ix0) : EReal) := by
  unfold scaled
  pointwise

/-- The two tests over the scaled logits. -/
def tests (s : FVec Ideal S32x1000000 .f32) : IVec S32x1000000 1 :=
  andi (cmpf .olt s (broadcastInDim S32x1000000 ![] bcast_S_S32x1000000 (constant S_ .f32 0x7F800000#32)))
    (broadcastInDim S32x1000000 ![0, 1] bcast_S32x1_S32x1000000_0_1 (cmpf .ogt (broadcastInDim S32x1 ![0] bcast_S32_S32x1_0
      (Host.reduce FloatOps.maximumf s (constant S_ .f32 0xFF800000#32) reducesTo_S32x1000000_S32_d1 h_S_))
      (broadcastInDim S32x1 ![] bcast_S_S32x1 (constant S_ .f32 0xFF800000#32))))

/-- The precondition is the two tests of the scaled logits. -/
theorem fn_eq (x : FVec Ideal S32x1000000 .f32) (t : FVec Ideal S_ .f32) :
    Cert.Pre_scores_below_infinity.fn x t = tests (scaled x t) := rfl

/-- The tests read at an index. -/
theorem tests_apply (s : FVec Ideal S32x1000000 .f32) (m : FVec Ideal S32 .f32)
    (j : S32x1000000.Idx) :
    andi (cmpf .olt s (broadcastInDim S32x1000000 ![] bcast_S_S32x1000000 (constant S_ .f32 0x7F800000#32)))
      (broadcastInDim S32x1000000 ![0, 1] bcast_S32x1_S32x1000000_0_1 (cmpf .ogt (broadcastInDim S32x1 ![0] bcast_S32_S32x1_0 m)
      (broadcastInDim S32x1 ![] bcast_S_S32x1 (constant S_ .f32 0xFF800000#32)))) j
      = Scalar.andi (FloatOps.cmpf .olt (s j) (FloatOps.ofBits .f32 0x7F800000#32))
          (FloatOps.cmpf .ogt (m (ix1 (j 0))) (FloatOps.ofBits .f32 0xFF800000#32)) := by
  pointwise
  rfl

/-- Both bits of a conjunction that is one. -/
theorem and_one : ∀ a b : BitVec 1, Scalar.andi a b = 1#1 → a = 1#1 ∧ b = 1#1 := by decide

/-- A test for less that gives one. -/
theorem lt_of_one (a b : EReal) (h : (FloatOps.cmpf (F := Ideal) (φ := .f32) .olt a b : BitVec 1) = 1#1) : a < b := by
  by_contra hn
  revert h
  show ¬ (Ideal.cmp .olt a b = 1#1)
  simp [Ideal.cmp, hn]

/-- A test for greater that gives one. -/
theorem gt_of_one (a b : EReal) (h : (FloatOps.cmpf (F := Ideal) (φ := .f32) .ogt a b : BitVec 1) = 1#1) : b < a := by
  by_contra hn
  revert h
  show ¬ (Ideal.cmp .ogt a b = 1#1)
  simp [Ideal.cmp, hn]

/-- Under the precondition no scaled logit is plus infinity, and every row holds one above minus infinity. -/
theorem decode (x : FVec Ideal S32x1000000 .f32) (t : FVec Ideal S_ .f32)
    (h : Cert.Pre_scores_below_infinity.fn (F := Ideal) x t = fun _ => 1#1) (r : Fin 32) :
    (∀ c : Fin 1000000, (x (ix2 r c) : EReal) * Ideal.exp (t ix0) ≠ ⊤)
      ∧ ∃ c : Fin 1000000, (x (ix2 r c) : EReal) * Ideal.exp (t ix0) ≠ ⊥ := by
  rw [fn_eq] at h
  have k : ∀ c : Fin 1000000, scaled x t (ix2 r c) < (⊤ : EReal)
      ∧ (⊥ : EReal) < (Finset.univ : Finset (Fin 1000000)).fold max (⊥ : EReal) fun c => scaled x t (ix2 r c) := fun c => by
    have hc := congrFun h (ix2 r c)
    unfold tests at hc
    rw [tests_apply, max_apply] at hc
    obtain ⟨ha, hb⟩ := and_one _ _ hc
    refine ⟨lt_of_lt_of_eq (lt_of_one _ _ ha) pos_inf, lt_of_eq_of_lt neg_inf.symm (gt_of_one _ _ hb)⟩
  refine ⟨fun c => ?_, ?_⟩
  · rw [← scaled_apply]; exact ne_of_lt (k c).1
  · by_contra hn
    push Not at hn
    have hl := (k 0).2
    refine absurd hl (not_lt.2 ?_)
    exact (Finset.fold_max_le _).2 ⟨le_refl _, fun c _ => le_of_eq ((scaled_apply x t (ix2 r c)).trans (hn c))⟩

end

end Cert.Proof.Pre

end
-- ==== Proof.Algebraic.lean ====
/- The kernel's result is the reference's, over the extended reals, under the precondition. -/
module

public import proofs.«01_k».proof.Defs
public import proofs.«01_k».proof.Proof.Result
public import proofs.«01_k».proof.Proof.Total
public import proofs.«01_k».proof.Proof.RefRun
public import proofs.«01_k».proof.Proof.RefResult
public import proofs.«01_k».proof.Proof.Pre

@[expose] public section

set_option maxRecDepth 8192

noncomputable section

namespace Cert.Proof.Algebraic

open Idealize.ShloMosaic Idealize.ShloMosaic.TcCoe Idealize.SL.Sem Idealize.ShloMosaic.StableHlo
open Cert.Proof.Value (scaleOf xOf resultOf scoreK Out)

section
open Cert.KernelIdeal Cert.KernelIdeal.Gen

/-- The scale the launch finds is the exponential of the temperature argument. -/
theorem scale_eq (m : (ℓ : Loc nD τ sig) → Buf (Elt Ideal) ℓ) (c : Dev nD) (T : S_.Idx → EReal)
    (h : m ((c.tc : Thread nD τ).loc main_arg1) = T) : scaleOf m c = Ideal.exp (T ix0) := by
  unfold scaleOf
  refine congrArg Ideal.exp ?_
  have e : V m c main_v0 = shapeCast S1x1 T shapeCasts_S_S1x1 := by
    rw [← h]
    unfold V hostOps0
    rw [StableHlo.after_cons, StableHlo.after_nil]
    exact StableHlo.reshape_result main_arg1 main_v0 rfl shapeCasts_S_S1x1 _ _ _
  refine (congrFun e _).trans ?_
  exact congrArg T (funext fun a => a.elim0)

/-- The array it finds is the logits argument. -/
theorem logits_eq (m : (ℓ : Loc nD τ sig) → Buf (Elt Ideal) ℓ) (c : Dev nD) (X : S32x1000000.Idx → EReal)
    (h : m ((c.tc : Thread nD τ).loc main_arg0) = X) : xOf m c = X :=
  (V_main_arg0 m c).trans h

end

/-- One entry: the two results are equal at an index. -/
theorem entry (V0 : Valuation Cert.ReferenceIdeal.τ Cert.ReferenceIdeal.sig (Elt Ideal)) (x : Cert.KernelIdeal.S32x1000000.Idx → EReal)
    (t : Cert.KernelIdeal.S_.Idx → EReal) (hx : Ref.X0 V0 = x) (ht : Ref.T0 V0 = t)
    (hp : ∀ r : Fin 32, (∀ c : Fin 1000000, x (ix2 r c) * Ideal.exp (t ix0) ≠ ⊤) ∧ ∃ c : Fin 1000000, x (ix2 r c) * Ideal.exp (t ix0) ≠ ⊥)
    (r : Fin 32) (c : Fin 1000000) : Out (Ideal.exp (t ix0)) x r.val c.val = Ref.refOf V0 (ix2 r c) := by
  have hs : ∀ c : Fin 1000000, Ref.score V0 (ix2 r c) = scoreK (Ideal.exp (t ix0)) x r c := fun c => by
    unfold Ref.score scoreK
    rw [hx, ht]
    rfl
  have h1 : ∀ c, scoreK (Ideal.exp (t ix0)) x r c ≠ ⊤ := fun c =>
    EReal.add_ne_top ((hp r).1 c) (EReal.coe_ne_top _)
  have h2 : ∃ c, scoreK (Ideal.exp (t ix0)) x r c ≠ ⊥ := by
    obtain ⟨c, hc⟩ := (hp r).2
    refine ⟨c, fun h => ?_⟩
    rcases EReal.add_eq_bot_iff.1 h with h | h
    · exact hc h
    · exact EReal.coe_ne_bot _ h
  obtain ⟨μ, hμ⟩ := Ref.peak_real (Ref.score V0) r (fun c => by rw [hs]; exact h1 c) (by
    obtain ⟨c, hc⟩ := h2
    exact ⟨c, by rw [hs]; exact hc⟩)
  rw [Value.Out_eq _ _ r h1 h2 μ c]
  have h0 : (ix2 r c : Cert.ReferenceIdeal.S32x1000000.Idx) 0 = r := rfl
  unfold Ref.refOf
  rw [h0, hμ, hs]
  refine congrArg (Ideal.div _) (Finset.sum_congr rfl fun c' _ => ?_)
  rw [hs]

/-- The two result arrays are equal. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) (x : Cert.KernelIdeal.S32x1000000.Idx → EReal)
    (t : Cert.KernelIdeal.S_.Idx → EReal)
    (hmx : m ((c.tc : Thread Cert.KernelIdeal.nD Cert.KernelIdeal.τ).loc Cert.KernelIdeal.main_arg0) = x)
    (hmt : m ((c.tc : Thread Cert.KernelIdeal.nD Cert.KernelIdeal.τ).loc Cert.KernelIdeal.main_arg1) = t)
    (hx : Ref.X0 V0 = x) (ht : Ref.T0 V0 = t)
    (hp : ∀ r : Fin 32, (∀ c : Fin 1000000, x (ix2 r c) * Ideal.exp (t ix0) ≠ ⊤) ∧ ∃ c : Fin 1000000, x (ix2 r c) * Ideal.exp (t ix0) ≠ ⊥) :
    Ref.refOf V0 = resultOf m c := by
  funext i
  unfold resultOf
  rw [scale_eq m c t hmt, logits_eq m c x hmx, entry V0 x t hx ht hp (i 0) (i 1)]
  exact congrArg (Ref.refOf V0) (ix2_eta i).symm

/-- The claim of equal results. -/
theorem algebraic : Cert.algebraic_KernelIdeal_ReferenceIdeal_pre_scores_below_infinity
    (hKernelIdeal := Cert.KernelIdeal.Gen.facts) (hReferenceIdeal := Cert.ReferenceIdeal.Gen.facts)
    (hPre_scores_below_infinity := Pre.facts) := by
  intro m g m' g' hpre hargs
  refine ⟨fun c => resultOf m c, ?_, ?_⟩
  · exact (θ_run Cert.KernelIdeal.defs _ _).mono (fun _ h => h.1) (Value.run m g)
  · refine (θ_run Cert.ReferenceIdeal.defs _ _).mono (fun _ h c => ?_) (Ref.run m' g')
    refine ⟨(h c).1.trans ?_, (h c).2⟩
    refine (Ref.res_apply (launchContents m' c)).trans ?_
    exact result_eq m c (launchContents m' c) _ _ rfl rfl (hargs c).1 (hargs c).2
      fun r => @Pre.decode Pre.facts _ _ (hpre c) r

end Cert.Proof.Algebraic

end
-- ==== Proof.lean ====
/- The claim: the frames of the three programs, that the kernel's ideal reading is the kernel's own text, and the equality
   of the kernel's result with the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

/-- The whole claim. -/
theorem claim : Cert.Claim := ⟨Cert.Kernel.Gen.facts, Cert.KernelIdeal.Gen.facts, Cert.ReferenceIdeal.Gen.facts, Pre.facts,
  frame_kernel, frame_ideal, fun m g _ => frame_ideal m g trivial, frame_reference, fun m g _ => frame_reference m g trivial,
  trivial, Algebraic.algebraic⟩

end Cert.Proof

end
